-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x2048 : Shape := ⟨3, ![2, 128, 2048]⟩
abbrev S256x2048 : Shape := ⟨2, ![256, 2048]⟩
abbrev S2048 : Shape := ⟨1, ![2048]⟩
abbrev S2048x8192 : Shape := ⟨2, ![2048, 8192]⟩
abbrev S8192 : Shape := ⟨1, ![8192]⟩
abbrev S8192x2048 : Shape := ⟨2, ![8192, 2048]⟩
abbrev S16x16x2048 : Shape := ⟨3, ![16, 16, 2048]⟩
abbrev S1x2048 : Shape := ⟨2, ![1, 2048]⟩
abbrev S1x8192 : Shape := ⟨2, ![1, 8192]⟩
abbrev S2x128 : Shape := ⟨2, ![2, 128]⟩
abbrev S256x8192 : Shape := ⟨2, ![256, 8192]⟩
abbrev S16x2048x512 : Shape := ⟨3, ![16, 2048, 512]⟩
abbrev S256x128 : Shape := ⟨2, ![256, 128]⟩
abbrev S2x256x128 : Shape := ⟨3, ![2, 256, 128]⟩
abbrev S2x8192 : Shape := ⟨2, ![2, 8192]⟩
abbrev S10 : Shape := ⟨1, ![10]⟩
abbrev S16 : Shape := ⟨1, ![16]⟩
abbrev S5 : Shape := ⟨1, ![5]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S32x128 : Shape := ⟨2, ![32, 128]⟩
abbrev S256x512 : Shape := ⟨2, ![256, 512]⟩
abbrev S256x1 : Shape := ⟨2, ![256, 1]⟩
abbrev S1x512 : Shape := ⟨2, ![1, 512]⟩
abbrev S2x128x512 : Shape := ⟨3, ![2, 128, 512]⟩
abbrev S2x512 : Shape := ⟨2, ![2, 512]⟩
abbrev S2 : Shape := ⟨1, ![2]⟩
abbrev S2x1 : Shape := ⟨2, ![2, 1]⟩
abbrev S1x128 : Shape := ⟨2, ![1, 128]⟩
abbrev S1x32x128 : Shape := ⟨3, ![1, 32, 128]⟩
abbrev S1x256x1 : Shape := ⟨3, ![1, 256, 1]⟩
abbrev S128x1 : Shape := ⟨2, ![128, 1]⟩
abbrev S128x128 : Shape := ⟨2, ![128, 128]⟩
abbrev S128 : Shape := ⟨1, ![128]⟩
abbrev S1x128x1 : Shape := ⟨3, ![1, 128, 1]⟩

abbrev nBuf : Space → Nat
  | .hbm => 26
  | .vmem => 21
  | .smem => 0
  | _ => 0

abbrev bufTy : (tb : Table) → Fin (tcTables nBuf tb) → BufTy
  | .hbm, ⟨0, _⟩ => ⟨S2x128x2048, .bf16⟩
  | .hbm, ⟨1, _⟩ => ⟨S256x2048, .f32⟩
  | .hbm, ⟨2, _⟩ => ⟨S2048, .f32⟩
  | .hbm, ⟨3, _⟩ => ⟨S2048, .f32⟩
  | .hbm, ⟨4, _⟩ => ⟨S2048x8192, .fp8e4m3⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192x2048, .fp8e4m3⟩
  | .hbm, ⟨10, _⟩ => ⟨S2048, .f32⟩
  | .hbm, ⟨11, _⟩ => ⟨S2048, .f32⟩
  | .hbm, ⟨12, _⟩ => ⟨S16x16x2048, .bf16⟩
  | .hbm, ⟨13, _⟩ => ⟨S1x2048, .f32⟩
  | .hbm, ⟨14, _⟩ => ⟨S1x2048, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S1x8192, .f32⟩
  | .hbm, ⟨19, _⟩ => ⟨S1x2048, .f32⟩
  | .hbm, ⟨20, _⟩ => ⟨S1x2048, .f32⟩
  | .hbm, ⟨21, _⟩ => ⟨S256x2048, .bf16⟩
  | .hbm, ⟨22, _⟩ => ⟨S256x2048, .fp8e4m3⟩
  | .hbm, ⟨23, _⟩ => ⟨S2x128, .f32⟩
  | .hbm, ⟨24, _⟩ => ⟨S256x8192, .fp8e4m3⟩
  | .hbm, ⟨25, _⟩ => ⟨S2x128, .f32⟩
  | .local _ .vmem, ⟨0, _⟩ => ⟨S16x16x2048, .bf16⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S16x2048x512, .fp8e4m3⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S8192x2048, .fp8e4m3⟩
  | .local _ .vmem, ⟨10, _⟩ => ⟨S1x2048, .f32⟩
  | .local _ .vmem, ⟨11, _⟩ => ⟨S1x2048, .f32⟩
  | .local _ .vmem, ⟨12, _⟩ => ⟨S256x8192, .f32⟩
  | .local _ .vmem, ⟨13, _⟩ => ⟨S256x2048, .fp8e4m3⟩
  | .local _ .vmem, ⟨14, _⟩ => ⟨S256x8192, .fp8e4m3⟩
  | .local _ .vmem, ⟨15, _⟩ => ⟨S256x128, .f32⟩
  | .local _ .vmem, ⟨16, _⟩ => ⟨S2x256x128, .f32⟩
  | .local _ .vmem, ⟨17, _⟩ => ⟨S2x8192, .f32⟩
  | .local _ .vmem, ⟨18, _⟩ => ⟨S2x8192, .f32⟩
  | .local _ .vmem, ⟨19, _⟩ => ⟨S256x2048, .f32⟩
  | .local _ .vmem, ⟨20, _⟩ => ⟨S256x2048, .bf16⟩
  | _, _ => ⟨S2x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩

abbrev nD : Nat := 1
abbrev τ : Topo := Topo.v7x

variable {F : FTy → Type} [FloatOps F]

abbrev grid0 : Pipeline.Grid := .none
-- ==== ReferenceIdeal.lean ====
abbrev S2x128x2048 : Shape := ⟨3, ![2, 128, 2048]⟩
abbrev S256x2048 : Shape := ⟨2, ![256, 2048]⟩
abbrev S2048 : Shape := ⟨1, ![2048]⟩
abbrev S2048x8192 : Shape := ⟨2, ![2048, 8192]⟩
abbrev S8192 : Shape := ⟨1, ![8192]⟩
abbrev S8192x2048 : Shape := ⟨2, ![8192, 2048]⟩
abbrev S1x2048 : Shape := ⟨2, ![1, 2048]⟩
abbrev S1x8192 : Shape := ⟨2, ![1, 8192]⟩
abbrev S2x128 : Shape := ⟨2, ![2, 128]⟩
abbrev S256x8192 : Shape := ⟨2, ![256, 8192]⟩
abbrev S256 : Shape := ⟨1, ![256]⟩
abbrev S256x1 : Shape := ⟨2, ![256, 1]⟩
abbrev S2x128x8192 : Shape := ⟨3, ![2, 128, 8192]⟩
abbrev S2x8192 : Shape := ⟨2, ![2, 8192]⟩
abbrev S2 : Shape := ⟨1, ![2]⟩
abbrev S2x1 : Shape := ⟨2, ![2, 1]⟩
abbrev S2x1x8192 : Shape := ⟨3, ![2, 1, 8192]⟩
abbrev S1x1x8192 : Shape := ⟨3, ![1, 1, 8192]⟩

abbrev nBuf : Space → Nat
  | .hbm => 26
  | .vmem => 17
  | .smem => 0
  | _ => 0

abbrev bufTy : (tb : Table) → Fin (tcTables nBuf tb) → BufTy
  | .hbm, ⟨0, _⟩ => ⟨S2x128x2048, .bf16⟩
  | .hbm, ⟨1, _⟩ => ⟨S256x2048, .f32⟩
  | .hbm, ⟨2, _⟩ => ⟨S2048, .f32⟩
  | .hbm, ⟨3, _⟩ => ⟨S2048, .f32⟩
  | .hbm, ⟨4, _⟩ => ⟨S2048x8192, .fp8e4m3⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192x2048, .fp8e4m3⟩
  | .hbm, ⟨10, _⟩ => ⟨S2048, .f32⟩
  | .hbm, ⟨11, _⟩ => ⟨S2048, .f32⟩
  | .hbm, ⟨12, _⟩ => ⟨S256x2048, .bf16⟩
  | .hbm, ⟨13, _⟩ => ⟨S1x2048, .f32⟩
  | .hbm, ⟨14, _⟩ => ⟨S1x2048, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S1x8192, .f32⟩
  | .hbm, ⟨19, _⟩ => ⟨S1x2048, .f32⟩
  | .hbm, ⟨20, _⟩ => ⟨S1x2048, .f32⟩
  | .hbm, ⟨21, _⟩ => ⟨S256x2048, .bf16⟩
  | .hbm, ⟨22, _⟩ => ⟨S256x2048, .fp8e4m3⟩
  | .hbm, ⟨23, _⟩ => ⟨S2x128, .f32⟩
  | .hbm, ⟨24, _⟩ => ⟨S256x8192, .fp8e4m3⟩
  | .hbm, ⟨25, _⟩ => ⟨S2x128, .f32⟩
  | .local _ .vmem, ⟨0, _⟩ => ⟨S256x2048, .bf16⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S2048x8192, .fp8e4m3⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S8192x2048, .fp8e4m3⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .fp8e4m3⟩
  | .local _ .vmem, ⟨14, _⟩ => ⟨S2x128, .f32⟩
  | .local _ .vmem, ⟨15, _⟩ => ⟨S256x8192, .fp8e4m3⟩
  | .local _ .vmem, ⟨16, _⟩ => ⟨S2x128, .f32⟩
  | _, _ => ⟨S2x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x8192 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.KernelBody.lean ====
module

public import proofs.«01_k».proof.Proof.Gen.Kernel.Frame
public import proofs.«01_k».proof.Proof.Gen.Kernel.Skeleton
public import Idealize.ShloMosaic.Lib.Pipeline.KitQuiescent
public import Idealize.ShloMosaic.Lib.Tactic

@[expose] public section

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the launch library's, beside the counters the kernel's own transfers ride on. -/
abbrev UU (nD : Nat) (τ : Topo) : Type := UR sig nD τ × Counters
local notation "𝕄" => MT nD τ sig Unit (Elt F) ℕ (UU nD τ) ℕ

abbrev EP : Emb (UR sig nD τ) (MT nD τ sig Unit (Elt F) ℕ (UU nD τ) ℕ) := embL
abbrev 𝒱₀ : Variants := Variants.none

/-- A buffer of the core held whole at contents `f`. -/
abbrev held (c : Dev nD) (b : Ref sig .tc) (f : b.ty.Contents (Elt F)) : sProp 𝕄 :=
  (Memref.whole b).view.loc (c : Thread nD τ) ↦{fullShare} f
abbrev cell0_0 : DmaSem sig := ((cc0_scratch21.slice (Rect.unit (s := S10) ![0] S1.size inb_S10_S1_0)).squeeze S_ squeezes_S1_S_).sem
abbrev cell0_1 : DmaSem sig := ((cc0_scratch21.slice (Rect.unit (s := S10) ![1] S1.size inb_S10_S1_1)).squeeze S_ squeezes_S1_S_).sem
abbrev cell0_2 : DmaSem sig := ((cc0_scratch21.slice (Rect.unit (s := S10) ![2] S1.size inb_S10_S1_2)).squeeze S_ squeezes_S1_S_).sem
abbrev cell0_3 : DmaSem sig := ((cc0_scratch21.slice (Rect.unit (s := S10) ![3] S1.size inb_S10_S1_3)).squeeze S_ squeezes_S1_S_).sem
abbrev cell0_4 : DmaSem sig := ((cc0_scratch21.slice (Rect.unit (s := S10) ![4] S1.size inb_S10_S1_4)).squeeze S_ squeezes_S1_S_).sem
abbrev cell0_5 : DmaSem sig := ((cc0_scratch21.slice (Rect.unit (s := S10) ![5] S1.size inb_S10_S1_5)).squeeze S_ squeezes_S1_S_).sem
abbrev cell0_6 : DmaSem sig := ((cc0_scratch21.slice (Rect.unit (s := S10) ![6] S1.size inb_S10_S1_6)).squeeze S_ squeezes_S1_S_).sem
abbrev cell0_7 : DmaSem sig := ((cc0_scratch21.slice (Rect.unit (s := S10) ![7] S1.size inb_S10_S1_7)).squeeze S_ squeezes_S1_S_).sem
abbrev cell0_8 : DmaSem sig := ((cc0_scratch21.slice (Rect.unit (s := S10) ![8] S1.size inb_S10_S1_8)).squeeze S_ squeezes_S1_S_).sem
abbrev cell0_9 : DmaSem sig := ((cc0_scratch21.slice (Rect.unit (s := S10) ![9] S1.size inb_S10_S1_9)).squeeze S_ squeezes_S1_S_).sem
abbrev cell1_0 : DmaSem sig := ((cc0_scratch22.slice (Rect.unit (s := S16) ![0] S1.size inb_S16_S1_0)).squeeze S_ squeezes_S1_S_).sem
abbrev cell1_1 : DmaSem sig := ((cc0_scratch22.slice (Rect.unit (s := S16) ![1] S1.size inb_S16_S1_1)).squeeze S_ squeezes_S1_S_).sem
abbrev cell1_2 : DmaSem sig := ((cc0_scratch22.slice (Rect.unit (s := S16) ![2] S1.size inb_S16_S1_2)).squeeze S_ squeezes_S1_S_).sem
abbrev cell1_3 : DmaSem sig := ((cc0_scratch22.slice (Rect.unit (s := S16) ![3] S1.size inb_S16_S1_3)).squeeze S_ squeezes_S1_S_).sem
abbrev cell1_4 : DmaSem sig := ((cc0_scratch22.slice (Rect.unit (s := S16) ![4] S1.size inb_S16_S1_4)).squeeze S_ squeezes_S1_S_).sem
abbrev cell1_5 : DmaSem sig := ((cc0_scratch22.slice (Rect.unit (s := S16) ![5] S1.size inb_S16_S1_5)).squeeze S_ squeezes_S1_S_).sem
abbrev cell1_6 : DmaSem sig := ((cc0_scratch22.slice (Rect.unit (s := S16) ![6] S1.size inb_S16_S1_6)).squeeze S_ squeezes_S1_S_).sem
abbrev cell1_7 : DmaSem sig := ((cc0_scratch22.slice (Rect.unit (s := S16) ![7] S1.size inb_S16_S1_7)).squeeze S_ squeezes_S1_S_).sem
abbrev cell1_8 : DmaSem sig := ((cc0_scratch22.slice (Rect.unit (s := S16) ![8] S1.size inb_S16_S1_8)).squeeze S_ squeezes_S1_S_).sem
abbrev cell1_9 : DmaSem sig := ((cc0_scratch22.slice (Rect.unit (s := S16) ![9] S1.size inb_S16_S1_9)).squeeze S_ squeezes_S1_S_).sem
abbrev cell1_10 : DmaSem sig := ((cc0_scratch22.slice (Rect.unit (s := S16) ![10] S1.size inb_S16_S1_10)).squeeze S_ squeezes_S1_S_).sem
abbrev cell1_11 : DmaSem sig := ((cc0_scratch22.slice (Rect.unit (s := S16) ![11] S1.size inb_S16_S1_11)).squeeze S_ squeezes_S1_S_).sem
abbrev cell1_12 : DmaSem sig := ((cc0_scratch22.slice (Rect.unit (s := S16) ![12] S1.size inb_S16_S1_12)).squeeze S_ squeezes_S1_S_).sem
abbrev cell1_13 : DmaSem sig := ((cc0_scratch22.slice (Rect.unit (s := S16) ![13] S1.size inb_S16_S1_13)).squeeze S_ squeezes_S1_S_).sem
abbrev cell1_14 : DmaSem sig := ((cc0_scratch22.slice (Rect.unit (s := S16) ![14] S1.size inb_S16_S1_14)).squeeze S_ squeezes_S1_S_).sem
abbrev cell1_15 : DmaSem sig := ((cc0_scratch22.slice (Rect.unit (s := S16) ![15] S1.size inb_S16_S1_15)).squeeze S_ squeezes_S1_S_).sem
abbrev cell2_0 : DmaSem sig := ((cc0_scratch23.slice (Rect.unit (s := S16) ![0] S1.size inb_S16_S1_0)).squeeze S_ squeezes_S1_S_).sem
abbrev cell2_1 : DmaSem sig := ((cc0_scratch23.slice (Rect.unit (s := S16) ![1] S1.size inb_S16_S1_1)).squeeze S_ squeezes_S1_S_).sem
abbrev cell2_2 : DmaSem sig := ((cc0_scratch23.slice (Rect.unit (s := S16) ![2] S1.size inb_S16_S1_2)).squeeze S_ squeezes_S1_S_).sem
abbrev cell2_3 : DmaSem sig := ((cc0_scratch23.slice (Rect.unit (s := S16) ![3] S1.size inb_S16_S1_3)).squeeze S_ squeezes_S1_S_).sem
abbrev cell2_4 : DmaSem sig := ((cc0_scratch23.slice (Rect.unit (s := S16) ![4] S1.size inb_S16_S1_4)).squeeze S_ squeezes_S1_S_).sem
abbrev cell2_5 : DmaSem sig := ((cc0_scratch23.slice (Rect.unit (s := S16) ![5] S1.size inb_S16_S1_5)).squeeze S_ squeezes_S1_S_).sem
abbrev cell2_6 : DmaSem sig := ((cc0_scratch23.slice (Rect.unit (s := S16) ![6] S1.size inb_S16_S1_6)).squeeze S_ squeezes_S1_S_).sem
abbrev cell2_7 : DmaSem sig := ((cc0_scratch23.slice (Rect.unit (s := S16) ![7] S1.size inb_S16_S1_7)).squeeze S_ squeezes_S1_S_).sem
abbrev cell2_8 : DmaSem sig := ((cc0_scratch23.slice (Rect.unit (s := S16) ![8] S1.size inb_S16_S1_8)).squeeze S_ squeezes_S1_S_).sem
abbrev cell2_9 : DmaSem sig := ((cc0_scratch23.slice (Rect.unit (s := S16) ![9] S1.size inb_S16_S1_9)).squeeze S_ squeezes_S1_S_).sem
abbrev cell2_10 : DmaSem sig := ((cc0_scratch23.slice (Rect.unit (s := S16) ![10] S1.size inb_S16_S1_10)).squeeze S_ squeezes_S1_S_).sem
abbrev cell2_11 : DmaSem sig := ((cc0_scratch23.slice (Rect.unit (s := S16) ![11] S1.size inb_S16_S1_11)).squeeze S_ squeezes_S1_S_).sem
abbrev cell2_12 : DmaSem sig := ((cc0_scratch23.slice (Rect.unit (s := S16) ![12] S1.size inb_S16_S1_12)).squeeze S_ squeezes_S1_S_).sem
abbrev cell2_13 : DmaSem sig := ((cc0_scratch23.slice (Rect.unit (s := S16) ![13] S1.size inb_S16_S1_13)).squeeze S_ squeezes_S1_S_).sem
abbrev cell2_14 : DmaSem sig := ((cc0_scratch23.slice (Rect.unit (s := S16) ![14] S1.size inb_S16_S1_14)).squeeze S_ squeezes_S1_S_).sem
abbrev cell2_15 : DmaSem sig := ((cc0_scratch23.slice (Rect.unit (s := S16) ![15] S1.size inb_S16_S1_15)).squeeze S_ squeezes_S1_S_).sem
abbrev cell3_0 : DmaSem sig := ((cc0_scratch24.slice (Rect.unit (s := S5) ![0] S1.size inb_S5_S1_0)).squeeze S_ squeezes_S1_S_).sem
abbrev cell3_1 : DmaSem sig := ((cc0_scratch24.slice (Rect.unit (s := S5) ![1] S1.size inb_S5_S1_1)).squeeze S_ squeezes_S1_S_).sem
abbrev cell3_2 : DmaSem sig := ((cc0_scratch24.slice (Rect.unit (s := S5) ![2] S1.size inb_S5_S1_2)).squeeze S_ squeezes_S1_S_).sem
abbrev cell3_3 : DmaSem sig := ((cc0_scratch24.slice (Rect.unit (s := S5) ![3] S1.size inb_S5_S1_3)).squeeze S_ squeezes_S1_S_).sem
abbrev cell3_4 : DmaSem sig := ((cc0_scratch24.slice (Rect.unit (s := S5) ![4] S1.size inb_S5_S1_4)).squeeze S_ squeezes_S1_S_).sem
/-- The kernel's own DMA semaphores. -/
abbrev osem : Fin 47 → SemLoc sig := ![.dma cell0_0, .dma cell0_1, .dma cell0_2, .dma cell0_3, .dma cell0_4, .dma cell0_5, .dma cell0_6, .dma cell0_7, .dma cell0_8, .dma cell0_9, .dma cell1_0, .dma cell1_1, .dma cell1_2, .dma cell1_3, .dma cell1_4, .dma cell1_5, .dma cell1_6, .dma cell1_7, .dma cell1_8, .dma cell1_9, .dma cell1_10, .dma cell1_11, .dma cell1_12, .dma cell1_13, .dma cell1_14, .dma cell1_15, .dma cell2_0, .dma cell2_1, .dma cell2_2, .dma cell2_3, .dma cell2_4, .dma cell2_5, .dma cell2_6, .dma cell2_7, .dma cell2_8, .dma cell2_9, .dma cell2_10, .dma cell2_11, .dma cell2_12, .dma cell2_13, .dma cell2_14, .dma cell2_15, .dma cell3_0, .dma cell3_1, .dma cell3_2, .dma cell3_3, .dma cell3_4]
theorem ownSemFacts : Pipeline.OwnSemFacts cfg0.spec osem := by decide

/-- Every cell at zero. -/
abbrev cellsP (c : Dev nD) : sProp 𝕄 := iprop(semVal ((c : Thread nD τ), SemLoc.dma cell0_0) 0 ∗ semVal ((c : Thread nD τ), SemLoc.dma cell0_1) 0 ∗ semVal ((c : Thread nD τ), SemLoc.dma cell0_2) 0 ∗ semVal ((c : Thread nD τ), SemLoc.dma cell0_3) 0 ∗ semVal ((c : Thread nD τ), SemLoc.dma cell0_4) 0 ∗ semVal ((c : Thread nD τ), SemLoc.dma cell0_5) 0 ∗ semVal ((c : Thread nD τ), SemLoc.dma cell0_6) 0 ∗ semVal ((c : Thread nD τ), SemLoc.dma cell0_7) 0 ∗ semVal ((c : Thread nD τ), SemLoc.dma cell0_8) 0 ∗ semVal ((c : Thread nD τ), SemLoc.dma cell0_9) 0 ∗ semVal ((c : Thread nD τ), SemLoc.dma cell1_0) 0 ∗ semVal ((c : Thread nD τ), SemLoc.dma cell1_1) 0 ∗ semVal ((c : Thread nD τ), SemLoc.dma cell1_2) 0 ∗ semVal ((c : Thread nD τ), SemLoc.dma cell1_3) 0 ∗ semVal ((c : Thread nD τ), SemLoc.dma cell1_4) 0 ∗ semVal ((c : Thread nD τ), SemLoc.dma cell1_5) 0 ∗ semVal ((c : Thread nD τ), SemLoc.dma cell1_6) 0 ∗ semVal ((c : Thread nD τ), SemLoc.dma cell1_7) 0 ∗ semVal ((c : Thread nD τ), SemLoc.dma cell1_8) 0 ∗ semVal ((c : Thread nD τ), SemLoc.dma cell1_9) 0 ∗ semVal ((c : Thread nD τ), SemLoc.dma cell1_10) 0 ∗ semVal ((c : Thread nD τ), SemLoc.dma cell1_11) 0 ∗ semVal ((c : Thread nD τ), SemLoc.dma cell1_12) 0 ∗ semVal ((c : Thread nD τ), SemLoc.dma cell1_13) 0 ∗ semVal ((c : Thread nD τ), SemLoc.dma cell1_14) 0 ∗ semVal ((c : Thread nD τ), SemLoc.dma cell1_15) 0 ∗ semVal ((c : Thread nD τ), SemLoc.dma cell2_0) 0 ∗ semVal ((c : Thread nD τ), SemLoc.dma cell2_1) 0 ∗ semVal ((c : Thread nD τ), SemLoc.dma cell2_2) 0 ∗ semVal ((c : Thread nD τ), SemLoc.dma cell2_3) 0 ∗ semVal ((c : Thread nD τ), SemLoc.dma cell2_4) 0 ∗ semVal ((c : Thread nD τ), SemLoc.dma cell2_5) 0 ∗ semVal ((c : Thread nD τ), SemLoc.dma cell2_6) 0 ∗ semVal ((c : Thread nD τ), SemLoc.dma cell2_7) 0 ∗ semVal ((c : Thread nD τ), SemLoc.dma cell2_8) 0 ∗ semVal ((c : Thread nD τ), SemLoc.dma cell2_9) 0 ∗ semVal ((c : Thread nD τ), SemLoc.dma cell2_10) 0 ∗ semVal ((c : Thread nD τ), SemLoc.dma cell2_11) 0 ∗ semVal ((c : Thread nD τ), SemLoc.dma cell2_12) 0 ∗ semVal ((c : Thread nD τ), SemLoc.dma cell2_13) 0 ∗ semVal ((c : Thread nD τ), SemLoc.dma cell2_14) 0 ∗ semVal ((c : Thread nD τ), SemLoc.dma cell2_15) 0 ∗ semVal ((c : Thread nD τ), SemLoc.dma cell3_0) 0 ∗ semVal ((c : Thread nD τ), SemLoc.dma cell3_1) 0 ∗ semVal ((c : Thread nD τ), SemLoc.dma cell3_2) 0 ∗ semVal ((c : Thread nD τ), SemLoc.dma cell3_3) 0 ∗ semVal ((c : Thread nD τ), SemLoc.dma cell3_4) 0)

/-- The operands at their contents. -/
abbrev insP (c : Dev nD) (a0 : (Ref.ty main_v0).Contents (Elt F)) (a1 : (Ref.ty main_arg1).Contents (Elt F)) (a2 : (Ref.ty main_v1).Contents (Elt F)) (a3 : (Ref.ty main_v2).Contents (Elt F)) (a4 : (Ref.ty main_arg4).Contents (Elt F)) (a5 : (Ref.ty main_v3).Contents (Elt F)) (a6 : (Ref.ty main_v4).Contents (Elt F)) (a7 : (Ref.ty main_v5).Contents (Elt F)) (a8 : (Ref.ty main_v6).Contents (Elt F)) (a9 : (Ref.ty main_arg9).Contents (Elt F)) (a10 : (Ref.ty main_v7).Contents (Elt F)) (a11 : (Ref.ty main_v8).Contents (Elt F)) : sProp 𝕄 := iprop(held c main_v0 a0 ∗ held c main_arg1 a1 ∗ held c main_v1 a2 ∗ held c main_v2 a3 ∗ held c main_arg4 a4 ∗ held c main_v3 a5 ∗ held c main_v4 a6 ∗ held c main_v5 a7 ∗ held c main_v6 a8 ∗ held c main_arg9 a9 ∗ held c main_v7 a10 ∗ held c main_v8 a11)
/-- The kernel's own VMEM buffers at given contents. -/
abbrev scrAt (c : Dev nD) (f0 : (Ref.ty cc0_scratch0).Contents (Elt F)) (f1 : (Ref.ty cc0_scratch1).Contents (Elt F)) (f2 : (Ref.ty cc0_scratch2).Contents (Elt F)) (f3 : (Ref.ty cc0_scratch3).Contents (Elt F)) (f4 : (Ref.ty cc0_scratch4).Contents (Elt F)) (f5 : (Ref.ty cc0_scratch5).Contents (Elt F)) (f6 : (Ref.ty cc0_scratch6).Contents (Elt F)) (f7 : (Ref.ty cc0_scratch7).Contents (Elt F)) (f8 : (Ref.ty cc0_scratch8).Contents (Elt F)) (f9 : (Ref.ty cc0_scratch9).Contents (Elt F)) (f10 : (Ref.ty cc0_scratch10).Contents (Elt F)) (f11 : (Ref.ty cc0_scratch11).Contents (Elt F)) (f12 : (Ref.ty cc0_scratch12).Contents (Elt F)) (f13 : (Ref.ty cc0_scratch13).Contents (Elt F)) (f14 : (Ref.ty cc0_scratch14).Contents (Elt F)) (f15 : (Ref.ty cc0_scratch15).Contents (Elt F)) (f16 : (Ref.ty cc0_scratch16).Contents (Elt F)) (f17 : (Ref.ty cc0_scratch17).Contents (Elt F)) (f18 : (Ref.ty cc0_scratch18).Contents (Elt F)) (f19 : (Ref.ty cc0_scratch19).Contents (Elt F)) (f20 : (Ref.ty cc0_scratch20).Contents (Elt F)) : sProp 𝕄 := iprop(held c cc0_scratch0 f0 ∗ held c cc0_scratch1 f1 ∗ held c cc0_scratch2 f2 ∗ held c cc0_scratch3 f3 ∗ held c cc0_scratch4 f4 ∗ held c cc0_scratch5 f5 ∗ held c cc0_scratch6 f6 ∗ held c cc0_scratch7 f7 ∗ held c cc0_scratch8 f8 ∗ held c cc0_scratch9 f9 ∗ held c cc0_scratch10 f10 ∗ held c cc0_scratch11 f11 ∗ held c cc0_scratch12 f12 ∗ held c cc0_scratch13 f13 ∗ held c cc0_scratch14 f14 ∗ held c cc0_scratch15 f15 ∗ held c cc0_scratch16 f16 ∗ held c cc0_scratch17 f17 ∗ held c cc0_scratch18 f18 ∗ held c cc0_scratch19 f19 ∗ held c cc0_scratch20 f20)
/-- The kernel's own VMEM buffers at any contents. -/
abbrev scrP (c : Dev nD) : sProp 𝕄 := iprop((∃ f, held c cc0_scratch0 f) ∗ (∃ f, held c cc0_scratch1 f) ∗ (∃ f, held c cc0_scratch2 f) ∗ (∃ f, held c cc0_scratch3 f) ∗ (∃ f, held c cc0_scratch4 f) ∗ (∃ f, held c cc0_scratch5 f) ∗ (∃ f, held c cc0_scratch6 f) ∗ (∃ f, held c cc0_scratch7 f) ∗ (∃ f, held c cc0_scratch8 f) ∗ (∃ f, held c cc0_scratch9 f) ∗ (∃ f, held c cc0_scratch10 f) ∗ (∃ f, held c cc0_scratch11 f) ∗ (∃ f, held c cc0_scratch12 f) ∗ (∃ f, held c cc0_scratch13 f) ∗ (∃ f, held c cc0_scratch14 f) ∗ (∃ f, held c cc0_scratch15 f) ∗ (∃ f, held c cc0_scratch16 f) ∗ (∃ f, held c cc0_scratch17 f) ∗ (∃ f, held c cc0_scratch18 f) ∗ (∃ f, held c cc0_scratch19 f) ∗ (∃ f, held c cc0_scratch20 f))

/-- The body on its buffers. -/
abbrev bodyG : Prog (TpuEff nD τ sig (Elt F) Λ₀ .tc) PUnit := cc0_convnext_block (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_arg9) (Memref.isWhole_whole _) (Memref.whole main_v7) (Memref.isWhole_whole _) (Memref.whole main_v8) (Memref.isWhole_whole _) (Memref.whole main_v9_0) (Memref.isWhole_whole _) (Memref.whole main_v9_1) (Memref.isWhole_whole _) (Memref.whole main_v9_2) (Memref.isWhole_whole _) (Memref.whole main_v9_3) (Memref.isWhole_whole _) (Memref.whole main_v9_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24

set_option maxHeartbeats 8000000 in
set_option maxRecDepth 65536 in
set_option sl_exec.dmaWindow true in
set_option sl_exec.rejoinFuel 64 in
/-- THE BODY: from the operands, the results' arrays at anything, the scratch buffers at anything and every cell at
    zero, the body ends with the operands as they were, the results at the values found by the run, every cell at zero. -/
def bodyRun (c : Dev nD) (a0 : (Ref.ty main_v0).Contents (Elt F)) (a1 : (Ref.ty main_arg1).Contents (Elt F)) (a2 : (Ref.ty main_v1).Contents (Elt F)) (a3 : (Ref.ty main_v2).Contents (Elt F)) (a4 : (Ref.ty main_arg4).Contents (Elt F)) (a5 : (Ref.ty main_v3).Contents (Elt F)) (a6 : (Ref.ty main_v4).Contents (Elt F)) (a7 : (Ref.ty main_v5).Contents (Elt F)) (a8 : (Ref.ty main_v6).Contents (Elt F)) (a9 : (Ref.ty main_arg9).Contents (Elt F)) (a10 : (Ref.ty main_v7).Contents (Elt F)) (a11 : (Ref.ty main_v8).Contents (Elt F))
    (f0 : (Ref.ty cc0_scratch0).Contents (Elt F)) (f1 : (Ref.ty cc0_scratch1).Contents (Elt F)) (f2 : (Ref.ty cc0_scratch2).Contents (Elt F)) (f3 : (Ref.ty cc0_scratch3).Contents (Elt F)) (f4 : (Ref.ty cc0_scratch4).Contents (Elt F)) (f5 : (Ref.ty cc0_scratch5).Contents (Elt F)) (f6 : (Ref.ty cc0_scratch6).Contents (Elt F)) (f7 : (Ref.ty cc0_scratch7).Contents (Elt F)) (f8 : (Ref.ty cc0_scratch8).Contents (Elt F)) (f9 : (Ref.ty cc0_scratch9).Contents (Elt F)) (f10 : (Ref.ty cc0_scratch10).Contents (Elt F)) (f11 : (Ref.ty cc0_scratch11).Contents (Elt F)) (f12 : (Ref.ty cc0_scratch12).Contents (Elt F)) (f13 : (Ref.ty cc0_scratch13).Contents (Elt F)) (f14 : (Ref.ty cc0_scratch14).Contents (Elt F)) (f15 : (Ref.ty cc0_scratch15).Contents (Elt F)) (f16 : (Ref.ty cc0_scratch16).Contents (Elt F)) (f17 : (Ref.ty cc0_scratch17).Contents (Elt F)) (f18 : (Ref.ty cc0_scratch18).Contents (Elt F)) (f19 : (Ref.ty cc0_scratch19).Contents (Elt F)) (f20 : (Ref.ty cc0_scratch20).Contents (Elt F)) (g0 : (Ref.ty main_v9_0).Contents (Elt F)) (g1 : (Ref.ty main_v9_1).Contents (Elt F)) (g2 : (Ref.ty main_v9_2).Contents (Elt F)) (g3 : (Ref.ty main_v9_3).Contents (Elt F)) (g4 : (Ref.ty main_v9_4).Contents (Elt F)) :
    { w : (Ref.ty main_v9_0).Contents (Elt F) × (Ref.ty main_v9_1).Contents (Elt F) × (Ref.ty main_v9_2).Contents (Elt F) × (Ref.ty main_v9_3).Contents (Elt F) × (Ref.ty main_v9_4).Contents (Elt F) //
      ∀ (W : Waits sig Unit) (Q : PUnit → sProp 𝕄),
      iprop((insP c a0 a1 a2 a3 a4 a5 a6 a7 a8 a9 a10 a11 ∗ held c main_v9_0 g0 ∗ held c main_v9_1 g1 ∗ held c main_v9_2 g2 ∗ held c main_v9_3 g3 ∗ held c main_v9_4 g4 ∗ scrAt c f0 f1 f2 f3 f4 f5 f6 f7 f8 f9 f10 f11 f12 f13 f14 f15 f16 f17 f18 f19 f20 ∗ cellsP c ∗ owes (c : Thread nD τ) 0 W)
        ∗ ((insP c a0 a1 a2 a3 a4 a5 a6 a7 a8 a9 a10 a11 ∗ held c main_v9_0 w.1 ∗ held c main_v9_1 w.2.1 ∗ held c main_v9_2 w.2.2.1 ∗ held c main_v9_3 w.2.2.2.1 ∗ held c main_v9_4 w.2.2.2.2 ∗ scrP c ∗ cellsP c ∗ ∃ W, owes (c : Thread nD τ) 0 W) -∗ Q ⟨⟩))
      ⊢ wp frame (wpE (defs₀ (F := F)) 𝒱₀ (c : Thread nD τ) none) Set.univ (bodyG (F := F)) Q } := by
  refine ⟨⟨?w0, ?w1, ?w2, ?w3, ?w4⟩, ?run⟩
  case run =>
    intro W Q
    iintro ⟨⟨⟨HI0, HI1, HI2, HI3, HI4, HI5, HI6, HI7, HI8, HI9, HI10, HI11⟩, HO0, HO1, HO2, HO3, HO4, ⟨HS0, HS1, HS2, HS3, HS4, HS5, HS6, HS7, HS8, HS9, HS10, HS11, HS12, HS13, HS14, HS15, HS16, HS17, HS18, HS19, HS20⟩, ⟨HC0, HC1, HC2, HC3, HC4, HC5, HC6, HC7, HC8, HC9, HC10, HC11, HC12, HC13, HC14, HC15, HC16, HC17, HC18, HC19, HC20, HC21, HC22, HC23, HC24, HC25, HC26, HC27, HC28, HC29, HC30, HC31, HC32, HC33, HC34, HC35, HC36, HC37, HC38, HC39, HC40, HC41, HC42, HC43, HC44, HC45, HC46⟩, HW⟩, Hk⟩
    sl_exec
    sl_step
    iapply Hk
    isplitl [HI0 HI1 HI2 HI3 HI4 HI5 HI6 HI7 HI8 HI9 HI10 HI11]
    · isplitl [HI0]; · iexact HI0
      isplitl [HI1]; · iexact HI1
      isplitl [HI2]; · iexact HI2
      isplitl [HI3]; · iexact HI3
      isplitl [HI4]; · iexact HI4
      isplitl [HI5]; · iexact HI5
      isplitl [HI6]; · iexact HI6
      isplitl [HI7]; · iexact HI7
      isplitl [HI8]; · iexact HI8
      isplitl [HI9]; · iexact HI9
      isplitl [HI10]; · iexact HI10
      iexact HI11
    isplitl [HO0]; · iexact HO0
    isplitl [HO1]; · iexact HO1
    isplitl [HO2]; · iexact HO2
    isplitl [HO3]; · iexact HO3
    isplitl [HO4]; · iexact HO4
    isplitl [HS0 HS1 HS2 HS3 HS4 HS5 HS6 HS7 HS8 HS9 HS10 HS11 HS12 HS13 HS14 HS15 HS16 HS17 HS18 HS19 HS20]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      isplitl [HS14]; · iexists _; iexact HS14
      isplitl [HS15]; · iexists _; iexact HS15
      isplitl [HS16]; · iexists _; iexact HS16
      isplitl [HS17]; · iexists _; iexact HS17
      isplitl [HS18]; · iexists _; iexact HS18
      isplitl [HS19]; · iexists _; iexact HS19
      iexists _; iexact HS20
    isplitl [HC0 HC1 HC2 HC3 HC4 HC5 HC6 HC7 HC8 HC9 HC10 HC11 HC12 HC13 HC14 HC15 HC16 HC17 HC18 HC19 HC20 HC21 HC22 HC23 HC24 HC25 HC26 HC27 HC28 HC29 HC30 HC31 HC32 HC33 HC34 HC35 HC36 HC37 HC38 HC39 HC40 HC41 HC42 HC43 HC44 HC45 HC46]
    · isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      isplitl [HC9]; · iexact HC9
      isplitl [HC10]; · iexact HC10
      isplitl [HC11]; · iexact HC11
      isplitl [HC12]; · iexact HC12
      isplitl [HC13]; · iexact HC13
      isplitl [HC14]; · iexact HC14
      isplitl [HC15]; · iexact HC15
      isplitl [HC16]; · iexact HC16
      isplitl [HC17]; · iexact HC17
      isplitl [HC18]; · iexact HC18
      isplitl [HC19]; · iexact HC19
      isplitl [HC20]; · iexact HC20
      isplitl [HC21]; · iexact HC21
      isplitl [HC22]; · iexact HC22
      isplitl [HC23]; · iexact HC23
      isplitl [HC24]; · iexact HC24
      isplitl [HC25]; · iexact HC25
      isplitl [HC26]; · iexact HC26
      isplitl [HC27]; · iexact HC27
      isplitl [HC28]; · iexact HC28
      isplitl [HC29]; · iexact HC29
      isplitl [HC30]; · iexact HC30
      isplitl [HC31]; · iexact HC31
      isplitl [HC32]; · iexact HC32
      isplitl [HC33]; · iexact HC33
      isplitl [HC34]; · iexact HC34
      isplitl [HC35]; · iexact HC35
      isplitl [HC36]; · iexact HC36
      isplitl [HC37]; · iexact HC37
      isplitl [HC38]; · iexact HC38
      isplitl [HC39]; · iexact HC39
      isplitl [HC40]; · iexact HC40
      isplitl [HC41]; · iexact HC41
      isplitl [HC42]; · iexact HC42
      isplitl [HC43]; · iexact HC43
      isplitl [HC44]; · iexact HC44
      isplitl [HC45]; · iexact HC45
      iexact HC46
    iexists _; iexact HW

end Cert.Kernel.Body

end
-- ==== Proof.KernelRun.lean ====
module

public import proofs.«01_k».proof.Proof.Gen.Kernel.Frame
public import proofs.«01_k».proof.Proof.Gen.Kernel.Skeleton
public import proofs.«01_k».proof.Proof.KernelBody
public import Idealize.ShloMosaic.Lib.Pipeline.KitQuiescent
public import Idealize.ShloMosaic.Lib.Tactic

@[expose] public section

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- Contents of the results' arrays that the body leaves on core `c`, from some contents of its scratch buffers and of
    the results' arrays. -/
def OutOK (c : Dev nD) (w0 : (Ref.ty main_v9_0).Contents (Elt F)) (w1 : (Ref.ty main_v9_1).Contents (Elt F)) (w2 : (Ref.ty main_v9_2).Contents (Elt F)) (w3 : (Ref.ty main_v9_3).Contents (Elt F)) (w4 : (Ref.ty main_v9_4).Contents (Elt F)) : Prop :=
  ∃ f0 f1 f2 f3 f4 f5 f6 f7 f8 f9 f10 f11 f12 f13 f14 f15 f16 f17 f18 f19 f20 g0 g1 g2 g3 g4, (w0, w1, w2, w3, w4) = (bodyRun c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) f0 f1 f2 f3 f4 f5 f6 f7 f8 f9 f10 f11 f12 f13 f14 f15 f16 f17 f18 f19 f20 g0 g1 g2 g3 g4).1

/-- The invariant before the body: the operands, the results' arrays and the scratch buffers at anything, every cell at zero. -/
def Φ0 (c : Dev nD) : sProp 𝕄 :=
  iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ (∃ g, held c main_v9_0 g) ∗ (∃ g, held c main_v9_1 g) ∗ (∃ g, held c main_v9_2 g) ∗ (∃ g, held c main_v9_3 g) ∗ (∃ g, held c main_v9_4 g) ∗ scrP c ∗ cellsP c)
/-- The invariant after it: the results' arrays at what the body leaves. -/
def Φ1 (c : Dev nD) : sProp 𝕄 :=
  iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ (∃ (w0 : (Ref.ty main_v9_0).Contents (Elt F)) (w1 : (Ref.ty main_v9_1).Contents (Elt F)) (w2 : (Ref.ty main_v9_2).Contents (Elt F)) (w3 : (Ref.ty main_v9_3).Contents (Elt F)) (w4 : (Ref.ty main_v9_4).Contents (Elt F)), ⌜OutOK m c w0 w1 w2 w3 w4⌝ ∗ held c main_v9_0 w0 ∗ held c main_v9_1 w1 ∗ held c main_v9_2 w2 ∗ held c main_v9_3 w3 ∗ held c main_v9_4 w4) ∗ scrP c ∗ cellsP c)

/-- The proof data: no window, the two invariants. -/
def dats (_ : Fin 1) (c : Dev nD) : Dat τ (Elt F) Unit ℕ (UU nD τ) ℕ cfg0 c where
  A w := Gen.V m c (Pipeline.arrRef cfg0.spec w)
  after w t := Fin.elim0 w
  Φ t := if t.val = 0 then Φ0 m c else Φ1 m c
  q _ := fullShare
  owed _ := 0

theorem Φ_first (c : Dev nD) (t : Fin cfg0.N) : (dats m 0 c).Φ t.castSucc = Φ0 m c := by
  have h : t.val = 0 := by have := t.isLt; have : cfg0.N = 1 := Gen.N_0; omega
  exact if_pos h
theorem Φ_next (c : Dev nD) (t : Fin cfg0.N) : (dats m 0 c).Φ t.succ = Φ1 m c := by
  show (if t.succ.val = 0 then Φ0 m c else Φ1 m c) = _
  exact if_neg (by rw [Fin.val_succ]; omega)
theorem Φ_zero (c : Dev nD) : (dats m 0 c).Φ 0 = Φ0 m c := by
  show (if (0 : Fin (cfg0.N + 1)).val = 0 then Φ0 m c else Φ1 m c) = _
  exact if_pos rfl
theorem Φ_last (c : Dev nD) : (dats m 0 c).Φ (Fin.last cfg0.N) = Φ1 m c := by
  show (if (Fin.last cfg0.N).val = 0 then Φ0 m c else Φ1 m c) = _
  exact if_neg (by rw [Fin.val_last]; have : cfg0.N = 1 := Gen.N_0; omega)

/-- The body table's entry is the kernel on its buffers. -/
theorem defs_tc : (defs₀ (F := F)) .tc cfg0.body = fun _ => bodyG := rfl
theorem prog_eq (t : Fin cfg0.N) : (defs₀ (F := F)) .tc cfg0.body (cfg0.bodyArgs t (cfg0.slots t)) = bodyG :=
  (congrFun defs_tc _).trans rfl

set_option maxHeartbeats 4000000 in
set_option maxRecDepth 65536 in
set_option backward.isDefEq.respectTransparency.types false in
theorem body_obligation (c : Dev nD) : BodyObligation (dats (F := F) m 0 c) (defs₀ (F := F)) 𝒱₀ () Set.univ := fun t => by
  rw [show (Finset.univ : Finset (Fin cfg0.W)) = ∅ from rfl, bigSep_empty, bigSep_empty]
  rw [Φ_first, Φ_next]
  unfold Dat.owesAt Pipeline.owesWithin
  rw [show (dats m 0 c).owed t.castSucc = 0 from rfl, show (dats m 0 c).owed t.succ = 0 from rfl]
  unfold Φ0 Φ1
  iintro ⟨⟨HI, ⟨%g0, HO0⟩, ⟨%g1, HO1⟩, ⟨%g2, HO2⟩, ⟨%g3, HO3⟩, ⟨%g4, HO4⟩, ⟨⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩, ⟨%f9, HS9⟩, ⟨%f10, HS10⟩, ⟨%f11, HS11⟩, ⟨%f12, HS12⟩, ⟨%f13, HS13⟩, ⟨%f14, HS14⟩, ⟨%f15, HS15⟩, ⟨%f16, HS16⟩, ⟨%f17, HS17⟩, ⟨%f18, HS18⟩, ⟨%f19, HS19⟩, ⟨%f20, HS20⟩⟩, HC⟩, ⟨%W, -, HW⟩, -⟩
  sl_rw [prog_eq t]
  iapply ((bodyRun c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) f0 f1 f2 f3 f4 f5 f6 f7 f8 f9 f10 f11 f12 f13 f14 f15 f16 f17 f18 f19 f20 g0 g1 g2 g3 g4).2 W)
  isplitl [HI HO0 HO1 HO2 HO3 HO4 HS0 HS1 HS2 HS3 HS4 HS5 HS6 HS7 HS8 HS9 HS10 HS11 HS12 HS13 HS14 HS15 HS16 HS17 HS18 HS19 HS20 HC HW]
  · isplitl [HI]; · iexact HI
    isplitl [HO0]; · iexact HO0
    isplitl [HO1]; · iexact HO1
    isplitl [HO2]; · iexact HO2
    isplitl [HO3]; · iexact HO3
    isplitl [HO4]; · iexact HO4
    isplitl [HS0 HS1 HS2 HS3 HS4 HS5 HS6 HS7 HS8 HS9 HS10 HS11 HS12 HS13 HS14 HS15 HS16 HS17 HS18 HS19 HS20]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      iexact HS20
    isplitl [HC]; · iexact HC
    iexact HW
  · iintro ⟨HI, HO0, HO1, HO2, HO3, HO4, HS, HC, ⟨%W', HW⟩⟩
    isplitl [HI HO0 HO1 HO2 HO3 HO4 HS HC]
    · isplitl [HI]; · iexact HI
      isplitl [HO0 HO1 HO2 HO3 HO4]
      · iexists _, _, _, _, _; isplitr; · ipureintro; exact ⟨f0, f1, f2, f3, f4, f5, f6, f7, f8, f9, f10, f11, f12, f13, f14, f15, f16, f17, f18, f19, f20, g0, g1, g2, g3, g4, rfl⟩
        isplitl [HO0]; · iexact HO0
        isplitl [HO1]; · iexact HO1
        isplitl [HO2]; · iexact HO2
        isplitl [HO3]; · iexact HO3
        iexact HO4
      isplitl [HS]; · iexact HS
      iexact HC
    isplitl [HW]
    · iexists W'; isplitr; · ipureintro; exact fun _ _ => Or.inl trivial
      iexact HW
    iempintro

/-- The kernel's own cells at zero, one by one. -/
theorem ownSems0_eq (c : Dev nD) : (Pipeline.ownSems0 (Ix := Unit) (Name := ℕ) (U := UU nD τ) (Lvl := ℕ) (Val := Elt F) (τ := τ) osem c : sProp 𝕄)
    = cellsP c := by
  unfold Pipeline.ownSems0
  rw [bigSep_univ_eq_bigSepL [(0 : Fin 47), (1 : Fin 47), (2 : Fin 47), (3 : Fin 47), (4 : Fin 47), (5 : Fin 47), (6 : Fin 47), (7 : Fin 47), (8 : Fin 47), (9 : Fin 47), (10 : Fin 47), (11 : Fin 47), (12 : Fin 47), (13 : Fin 47), (14 : Fin 47), (15 : Fin 47), (16 : Fin 47), (17 : Fin 47), (18 : Fin 47), (19 : Fin 47), (20 : Fin 47), (21 : Fin 47), (22 : Fin 47), (23 : Fin 47), (24 : Fin 47), (25 : Fin 47), (26 : Fin 47), (27 : Fin 47), (28 : Fin 47), (29 : Fin 47), (30 : Fin 47), (31 : Fin 47), (32 : Fin 47), (33 : Fin 47), (34 : Fin 47), (35 : Fin 47), (36 : Fin 47), (37 : Fin 47), (38 : Fin 47), (39 : Fin 47), (40 : Fin 47), (41 : Fin 47), (42 : Fin 47), (43 : Fin 47), (44 : Fin 47), (45 : Fin 47), (46 : Fin 47)] (by decide) (by decide)]
  rfl

/-- The arrays outside the region, one by one. -/
theorem unscoped_eq (c : Dev nD) (V : (b : Ref sig .tc) → Buf (Elt F) ((c : Thread nD τ).loc b)) :
    (Pipeline.unscopedRest (Ix := Unit) (Name := ℕ) (U := UU nD τ) (Lvl := ℕ) (cfg0.spec) c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_arg7) ↦{fullShare} V main_arg7) ∗ (((c : Thread nD τ).loc main_arg8) ↦{fullShare} V main_arg8) ∗ (((c : Thread nD τ).loc main_arg9) ↦{fullShare} V main_arg9) ∗ (((c : Thread nD τ).loc main_arg10) ↦{fullShare} V main_arg10) ∗ (((c : Thread nD τ).loc main_arg11) ↦{fullShare} V main_arg11) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v9_0) ↦{fullShare} V main_v9_0) ∗ (((c : Thread nD τ).loc main_v9_1) ↦{fullShare} V main_v9_1) ∗ (((c : Thread nD τ).loc main_v9_2) ↦{fullShare} V main_v9_2) ∗ (((c : Thread nD τ).loc main_v9_3) ↦{fullShare} V main_v9_3) ∗ (((c : Thread nD τ).loc main_v9_4) ↦{fullShare} V main_v9_4)) :=
  Pipeline.unscopedRest_eq_of_list (cfg0.spec) c V [main_arg0, main_arg1, main_arg2, main_arg3, main_arg4, main_arg5, main_arg6, main_arg7, main_arg8, main_arg9, main_arg10, main_arg11, main_v0, main_v1, main_v2, main_v3, main_v4, main_v5, main_v6, main_v7, main_v8, main_v9_0, main_v9_1, main_v9_2, main_v9_3, main_v9_4] (by decide) (by decide)

/-- The arrays the body never sees. -/
def restP (c : Dev nD) : sProp 𝕄 := iprop(held c main_arg0 (Gen.V m c main_arg0) ∗ held c main_arg2 (Gen.V m c main_arg2) ∗ held c main_arg3 (Gen.V m c main_arg3) ∗ held c main_arg5 (Gen.V m c main_arg5) ∗ held c main_arg6 (Gen.V m c main_arg6) ∗ held c main_arg7 (Gen.V m c main_arg7) ∗ held c main_arg8 (Gen.V m c main_arg8) ∗ held c main_arg10 (Gen.V m c main_arg10) ∗ held c main_arg11 (Gen.V m c main_arg11))
/-- What goes into the region beside its scratch. -/
def intoΦ (c : Dev nD) : sProp 𝕄 := iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ ((∃ g, held c main_v9_0 g) ∗ (∃ g, held c main_v9_1 g) ∗ (∃ g, held c main_v9_2 g) ∗ (∃ g, held c main_v9_3 g) ∗ (∃ g, held c main_v9_4 g)) ∗ cellsP c)
/-- What comes out of it. -/
def outOfΦ (c : Dev nD) : sProp 𝕄 := iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ (∃ (w0 : (Ref.ty main_v9_0).Contents (Elt F)) (w1 : (Ref.ty main_v9_1).Contents (Elt F)) (w2 : (Ref.ty main_v9_2).Contents (Elt F)) (w3 : (Ref.ty main_v9_3).Contents (Elt F)) (w4 : (Ref.ty main_v9_4).Contents (Elt F)), ⌜OutOK m c w0 w1 w2 w3 w4⌝ ∗ held c main_v9_0 w0 ∗ held c main_v9_1 w1 ∗ held c main_v9_2 w2 ∗ held c main_v9_3 w3 ∗ held c main_v9_4 w4))
def u₀ : UU nD τ := (initOf (Pipeline.cells cfgs Gen.cellOf_inj) (Pipeline.launchToks cfgs Gen.cellOf_inj), 1)

/-- What the memory is at the end: the arguments as launched and the results at what the body leaves. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8) ∧ s.mem ((c : Thread nD τ).loc main_arg9) = m ((c : Thread nD τ).loc main_arg9) ∧ s.mem ((c : Thread nD τ).loc main_arg10) = m ((c : Thread nD τ).loc main_arg10) ∧ s.mem ((c : Thread nD τ).loc main_arg11) = m ((c : Thread nD τ).loc main_arg11))
  ∧ OutOK m c (s.mem ((c : Thread nD τ).loc main_v9_0)) (s.mem ((c : Thread nD τ).loc main_v9_1)) (s.mem ((c : Thread nD τ).loc main_v9_2)) (s.mem ((c : Thread nD τ).loc main_v9_3)) (s.mem ((c : Thread nD τ).loc main_v9_4))

set_option maxHeartbeats 1600000 in
set_option maxRecDepth 65536 in
set_option backward.isDefEq.respectTransparency.types false in
/-- THE RUN: from any memory with zero counters @main terminates, the arguments unchanged, the results at what the body
    leaves, every semaphore counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ _ => rfl)
    (X := intoΦ m) (Y := outOfΦ m) (Z := restP m)
    (hX := fun c => by
      rw [unscoped_eq, ownSems0_eq]
      unfold intoΦ restP
      iintro ⟨⟨H_main_arg0, H_main_arg1, H_main_arg2, H_main_arg3, H_main_arg4, H_main_arg5, H_main_arg6, H_main_arg7, H_main_arg8, H_main_arg9, H_main_arg10, H_main_arg11, H_main_v0, H_main_v1, H_main_v2, H_main_v3, H_main_v4, H_main_v5, H_main_v6, H_main_v7, H_main_v8, H_main_v9_0, H_main_v9_1, H_main_v9_2, H_main_v9_3, H_main_v9_4⟩, HC, -, -, -⟩; imodintro
      isplitl [H_main_v0 H_main_arg1 H_main_v1 H_main_v2 H_main_arg4 H_main_v3 H_main_v4 H_main_v5 H_main_v6 H_main_arg9 H_main_v7 H_main_v8 H_main_v9_0 H_main_v9_1 H_main_v9_2 H_main_v9_3 H_main_v9_4 HC]
      · isplitl [H_main_v0 H_main_arg1 H_main_v1 H_main_v2 H_main_arg4 H_main_v3 H_main_v4 H_main_v5 H_main_v6 H_main_arg9 H_main_v7 H_main_v8]
        · isplitl [H_main_v0]; · iexact H_main_v0
          isplitl [H_main_arg1]; · iexact H_main_arg1
          isplitl [H_main_v1]; · iexact H_main_v1
          isplitl [H_main_v2]; · iexact H_main_v2
          isplitl [H_main_arg4]; · iexact H_main_arg4
          isplitl [H_main_v3]; · iexact H_main_v3
          isplitl [H_main_v4]; · iexact H_main_v4
          isplitl [H_main_v5]; · iexact H_main_v5
          isplitl [H_main_v6]; · iexact H_main_v6
          isplitl [H_main_arg9]; · iexact H_main_arg9
          isplitl [H_main_v7]; · iexact H_main_v7
          iexact H_main_v8
        isplitl [H_main_v9_0 H_main_v9_1 H_main_v9_2 H_main_v9_3 H_main_v9_4]
        · isplitl [H_main_v9_0]; · iexists _; iexact H_main_v9_0
          isplitl [H_main_v9_1]; · iexists _; iexact H_main_v9_1
          isplitl [H_main_v9_2]; · iexists _; iexact H_main_v9_2
          isplitl [H_main_v9_3]; · iexists _; iexact H_main_v9_3
          iexists _; iexact H_main_v9_4
        iexact HC
      isplitl [H_main_arg0]; · iexact H_main_arg0
      isplitl [H_main_arg2]; · iexact H_main_arg2
      isplitl [H_main_arg3]; · iexact H_main_arg3
      isplitl [H_main_arg5]; · iexact H_main_arg5
      isplitl [H_main_arg6]; · iexact H_main_arg6
      isplitl [H_main_arg7]; · iexact H_main_arg7
      isplitl [H_main_arg8]; · iexact H_main_arg8
      isplitl [H_main_arg10]; · iexact H_main_arg10
      iexact H_main_arg11)
    (hin := fun c => by
      rw [scopedRest0_eq, Φ_zero]
      unfold intoΦ Φ0
      iintro ⟨⟨HI, ⟨HO0, HO1, HO2, HO3, HO4⟩, HC⟩, HS⟩
      isplitl [HI]; · iexact HI
      isplitl [HO0]; · iexact HO0
      isplitl [HO1]; · iexact HO1
      isplitl [HO2]; · iexact HO2
      isplitl [HO3]; · iexact HO3
      isplitl [HO4]; · iexact HO4
      isplitl [HS]; · iexact HS
      iexact HC)
    (hout := fun c => by
      rw [scopedRest0_eq, Φ_last, ownSems0_eq]
      unfold Φ1 outOfΦ
      iintro ⟨HI, HO, HS, HC⟩
      isplitl [HI HO]
      · isplitl [HI]; · iexact HI
        iexact HO
      isplitl [HC]; · iexact HC
      iexact HS)
    (QY := QY m)
    (hY := fun c s' => by
      unfold outOfΦ restP
      iintro ⟨⟨⟨HI0, HI1, HI2, HI3, HI4, HI5, HI6, HI7, HI8, HI9, HI10, HI11⟩, ⟨%w0, %w1, %w2, %w3, %w4, %hw, HO0, HO1, HO2, HO3, HO4⟩⟩, ⟨H_main_arg0, H_main_arg2, H_main_arg3, H_main_arg5, H_main_arg6, H_main_arg7, H_main_arg8, H_main_arg10, H_main_arg11⟩, HSI⟩
      icombine HSI HI1 gives %h_main_arg1
      icombine HSI HI4 gives %h_main_arg4
      icombine HSI HI9 gives %h_main_arg9
      icombine HSI H_main_arg0 gives %h_main_arg0
      icombine HSI H_main_arg2 gives %h_main_arg2
      icombine HSI H_main_arg3 gives %h_main_arg3
      icombine HSI H_main_arg5 gives %h_main_arg5
      icombine HSI H_main_arg6 gives %h_main_arg6
      icombine HSI H_main_arg7 gives %h_main_arg7
      icombine HSI H_main_arg8 gives %h_main_arg8
      icombine HSI H_main_arg10 gives %h_main_arg10
      icombine HSI H_main_arg11 gives %h_main_arg11
      icombine HSI HO0 gives %ho0
      icombine HSI HO1 gives %ho1
      icombine HSI HO2 gives %ho2
      icombine HSI HO3 gives %ho3
      icombine HSI HO4 gives %ho4
      imodintro
      isplitr
      · ipureintro
        refine ⟨⟨(Buf.eq_of_forall_mem_univ h_main_arg0).trans (V_main_arg0 m c), (Buf.eq_of_forall_mem_univ h_main_arg1).trans (V_main_arg1 m c), (Buf.eq_of_forall_mem_univ h_main_arg2).trans (V_main_arg2 m c), (Buf.eq_of_forall_mem_univ h_main_arg3).trans (V_main_arg3 m c), (Buf.eq_of_forall_mem_univ h_main_arg4).trans (V_main_arg4 m c), (Buf.eq_of_forall_mem_univ h_main_arg5).trans (V_main_arg5 m c), (Buf.eq_of_forall_mem_univ h_main_arg6).trans (V_main_arg6 m c), (Buf.eq_of_forall_mem_univ h_main_arg7).trans (V_main_arg7 m c), (Buf.eq_of_forall_mem_univ h_main_arg8).trans (V_main_arg8 m c), (Buf.eq_of_forall_mem_univ h_main_arg9).trans (V_main_arg9 m c), (Buf.eq_of_forall_mem_univ h_main_arg10).trans (V_main_arg10 m c), (Buf.eq_of_forall_mem_univ h_main_arg11).trans (V_main_arg11 m c)⟩, ?_⟩
        have e0 : s'.mem.mem ((c : Thread nD τ).loc main_v9_0) = w0 := Buf.eq_of_forall_mem_univ ho0
        have e1 : s'.mem.mem ((c : Thread nD τ).loc main_v9_1) = w1 := Buf.eq_of_forall_mem_univ ho1
        have e2 : s'.mem.mem ((c : Thread nD τ).loc main_v9_2) = w2 := Buf.eq_of_forall_mem_univ ho2
        have e3 : s'.mem.mem ((c : Thread nD τ).loc main_v9_3) = w3 := Buf.eq_of_forall_mem_univ ho3
        have e4 : s'.mem.mem ((c : Thread nD τ).loc main_v9_4) = w4 := Buf.eq_of_forall_mem_univ ho4
        rw [e0, e1, e2, e3, e4]; exact hw
      iexact HSI)
    (hQ := fun _ hh hz => ⟨fun c => (hh c).2, hz⟩)

end Cert.Kernel.Body

end
-- ==== Proof.KernelIdealBody.lean ====
module

public import proofs.«01_k».proof.Proof.Gen.KernelIdeal.Frame
public import proofs.«01_k».proof.Proof.Gen.KernelIdeal.Skeleton
public import Idealize.ShloMosaic.Lib.Pipeline.KitQuiescent
public import Idealize.ShloMosaic.Lib.Tactic

@[expose] public section

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the launch library's, beside the counters the kernel's own transfers ride on. -/
abbrev UU (nD : Nat) (τ : Topo) : Type := UR sig nD τ × Counters
local notation "𝕄" => MT nD τ sig Unit (Elt F) ℕ (UU nD τ) ℕ

abbrev EP : Emb (UR sig nD τ) (MT nD τ sig Unit (Elt F) ℕ (UU nD τ) ℕ) := embL
abbrev 𝒱₀ : Variants := Variants.none

/-- A buffer of the core held whole at contents `f`. -/
abbrev held (c : Dev nD) (b : Ref sig .tc) (f : b.ty.Contents (Elt F)) : sProp 𝕄 :=
  (Memref.whole b).view.loc (c : Thread nD τ) ↦{fullShare} f
abbrev cell0_0 : DmaSem sig := ((cc0_scratch21.slice (Rect.unit (s := S10) ![0] S1.size inb_S10_S1_0)).squeeze S_ squeezes_S1_S_).sem
abbrev cell0_1 : DmaSem sig := ((cc0_scratch21.slice (Rect.unit (s := S10) ![1] S1.size inb_S10_S1_1)).squeeze S_ squeezes_S1_S_).sem
abbrev cell0_2 : DmaSem sig := ((cc0_scratch21.slice (Rect.unit (s := S10) ![2] S1.size inb_S10_S1_2)).squeeze S_ squeezes_S1_S_).sem
abbrev cell0_3 : DmaSem sig := ((cc0_scratch21.slice (Rect.unit (s := S10) ![3] S1.size inb_S10_S1_3)).squeeze S_ squeezes_S1_S_).sem
abbrev cell0_4 : DmaSem sig := ((cc0_scratch21.slice (Rect.unit (s := S10) ![4] S1.size inb_S10_S1_4)).squeeze S_ squeezes_S1_S_).sem
abbrev cell0_5 : DmaSem sig := ((cc0_scratch21.slice (Rect.unit (s := S10) ![5] S1.size inb_S10_S1_5)).squeeze S_ squeezes_S1_S_).sem
abbrev cell0_6 : DmaSem sig := ((cc0_scratch21.slice (Rect.unit (s := S10) ![6] S1.size inb_S10_S1_6)).squeeze S_ squeezes_S1_S_).sem
abbrev cell0_7 : DmaSem sig := ((cc0_scratch21.slice (Rect.unit (s := S10) ![7] S1.size inb_S10_S1_7)).squeeze S_ squeezes_S1_S_).sem
abbrev cell0_8 : DmaSem sig := ((cc0_scratch21.slice (Rect.unit (s := S10) ![8] S1.size inb_S10_S1_8)).squeeze S_ squeezes_S1_S_).sem
abbrev cell0_9 : DmaSem sig := ((cc0_scratch21.slice (Rect.unit (s := S10) ![9] S1.size inb_S10_S1_9)).squeeze S_ squeezes_S1_S_).sem
abbrev cell1_0 : DmaSem sig := ((cc0_scratch22.slice (Rect.unit (s := S16) ![0] S1.size inb_S16_S1_0)).squeeze S_ squeezes_S1_S_).sem
abbrev cell1_1 : DmaSem sig := ((cc0_scratch22.slice (Rect.unit (s := S16) ![1] S1.size inb_S16_S1_1)).squeeze S_ squeezes_S1_S_).sem
abbrev cell1_2 : DmaSem sig := ((cc0_scratch22.slice (Rect.unit (s := S16) ![2] S1.size inb_S16_S1_2)).squeeze S_ squeezes_S1_S_).sem
abbrev cell1_3 : DmaSem sig := ((cc0_scratch22.slice (Rect.unit (s := S16) ![3] S1.size inb_S16_S1_3)).squeeze S_ squeezes_S1_S_).sem
abbrev cell1_4 : DmaSem sig := ((cc0_scratch22.slice (Rect.unit (s := S16) ![4] S1.size inb_S16_S1_4)).squeeze S_ squeezes_S1_S_).sem
abbrev cell1_5 : DmaSem sig := ((cc0_scratch22.slice (Rect.unit (s := S16) ![5] S1.size inb_S16_S1_5)).squeeze S_ squeezes_S1_S_).sem
abbrev cell1_6 : DmaSem sig := ((cc0_scratch22.slice (Rect.unit (s := S16) ![6] S1.size inb_S16_S1_6)).squeeze S_ squeezes_S1_S_).sem
abbrev cell1_7 : DmaSem sig := ((cc0_scratch22.slice (Rect.unit (s := S16) ![7] S1.size inb_S16_S1_7)).squeeze S_ squeezes_S1_S_).sem
abbrev cell1_8 : DmaSem sig := ((cc0_scratch22.slice (Rect.unit (s := S16) ![8] S1.size inb_S16_S1_8)).squeeze S_ squeezes_S1_S_).sem
abbrev cell1_9 : DmaSem sig := ((cc0_scratch22.slice (Rect.unit (s := S16) ![9] S1.size inb_S16_S1_9)).squeeze S_ squeezes_S1_S_).sem
abbrev cell1_10 : DmaSem sig := ((cc0_scratch22.slice (Rect.unit (s := S16) ![10] S1.size inb_S16_S1_10)).squeeze S_ squeezes_S1_S_).sem
abbrev cell1_11 : DmaSem sig := ((cc0_scratch22.slice (Rect.unit (s := S16) ![11] S1.size inb_S16_S1_11)).squeeze S_ squeezes_S1_S_).sem
abbrev cell1_12 : DmaSem sig := ((cc0_scratch22.slice (Rect.unit (s := S16) ![12] S1.size inb_S16_S1_12)).squeeze S_ squeezes_S1_S_).sem
abbrev cell1_13 : DmaSem sig := ((cc0_scratch22.slice (Rect.unit (s := S16) ![13] S1.size inb_S16_S1_13)).squeeze S_ squeezes_S1_S_).sem
abbrev cell1_14 : DmaSem sig := ((cc0_scratch22.slice (Rect.unit (s := S16) ![14] S1.size inb_S16_S1_14)).squeeze S_ squeezes_S1_S_).sem
abbrev cell1_15 : DmaSem sig := ((cc0_scratch22.slice (Rect.unit (s := S16) ![15] S1.size inb_S16_S1_15)).squeeze S_ squeezes_S1_S_).sem
abbrev cell2_0 : DmaSem sig := ((cc0_scratch23.slice (Rect.unit (s := S16) ![0] S1.size inb_S16_S1_0)).squeeze S_ squeezes_S1_S_).sem
abbrev cell2_1 : DmaSem sig := ((cc0_scratch23.slice (Rect.unit (s := S16) ![1] S1.size inb_S16_S1_1)).squeeze S_ squeezes_S1_S_).sem
abbrev cell2_2 : DmaSem sig := ((cc0_scratch23.slice (Rect.unit (s := S16) ![2] S1.size inb_S16_S1_2)).squeeze S_ squeezes_S1_S_).sem
abbrev cell2_3 : DmaSem sig := ((cc0_scratch23.slice (Rect.unit (s := S16) ![3] S1.size inb_S16_S1_3)).squeeze S_ squeezes_S1_S_).sem
abbrev cell2_4 : DmaSem sig := ((cc0_scratch23.slice (Rect.unit (s := S16) ![4] S1.size inb_S16_S1_4)).squeeze S_ squeezes_S1_S_).sem
abbrev cell2_5 : DmaSem sig := ((cc0_scratch23.slice (Rect.unit (s := S16) ![5] S1.size inb_S16_S1_5)).squeeze S_ squeezes_S1_S_).sem
abbrev cell2_6 : DmaSem sig := ((cc0_scratch23.slice (Rect.unit (s := S16) ![6] S1.size inb_S16_S1_6)).squeeze S_ squeezes_S1_S_).sem
abbrev cell2_7 : DmaSem sig := ((cc0_scratch23.slice (Rect.unit (s := S16) ![7] S1.size inb_S16_S1_7)).squeeze S_ squeezes_S1_S_).sem
abbrev cell2_8 : DmaSem sig := ((cc0_scratch23.slice (Rect.unit (s := S16) ![8] S1.size inb_S16_S1_8)).squeeze S_ squeezes_S1_S_).sem
abbrev cell2_9 : DmaSem sig := ((cc0_scratch23.slice (Rect.unit (s := S16) ![9] S1.size inb_S16_S1_9)).squeeze S_ squeezes_S1_S_).sem
abbrev cell2_10 : DmaSem sig := ((cc0_scratch23.slice (Rect.unit (s := S16) ![10] S1.size inb_S16_S1_10)).squeeze S_ squeezes_S1_S_).sem
abbrev cell2_11 : DmaSem sig := ((cc0_scratch23.slice (Rect.unit (s := S16) ![11] S1.size inb_S16_S1_11)).squeeze S_ squeezes_S1_S_).sem
abbrev cell2_12 : DmaSem sig := ((cc0_scratch23.slice (Rect.unit (s := S16) ![12] S1.size inb_S16_S1_12)).squeeze S_ squeezes_S1_S_).sem
abbrev cell2_13 : DmaSem sig := ((cc0_scratch23.slice (Rect.unit (s := S16) ![13] S1.size inb_S16_S1_13)).squeeze S_ squeezes_S1_S_).sem
abbrev cell2_14 : DmaSem sig := ((cc0_scratch23.slice (Rect.unit (s := S16) ![14] S1.size inb_S16_S1_14)).squeeze S_ squeezes_S1_S_).sem
abbrev cell2_15 : DmaSem sig := ((cc0_scratch23.slice (Rect.unit (s := S16) ![15] S1.size inb_S16_S1_15)).squeeze S_ squeezes_S1_S_).sem
abbrev cell3_0 : DmaSem sig := ((cc0_scratch24.slice (Rect.unit (s := S5) ![0] S1.size inb_S5_S1_0)).squeeze S_ squeezes_S1_S_).sem
abbrev cell3_1 : DmaSem sig := ((cc0_scratch24.slice (Rect.unit (s := S5) ![1] S1.size inb_S5_S1_1)).squeeze S_ squeezes_S1_S_).sem
abbrev cell3_2 : DmaSem sig := ((cc0_scratch24.slice (Rect.unit (s := S5) ![2] S1.size inb_S5_S1_2)).squeeze S_ squeezes_S1_S_).sem
abbrev cell3_3 : DmaSem sig := ((cc0_scratch24.slice (Rect.unit (s := S5) ![3] S1.size inb_S5_S1_3)).squeeze S_ squeezes_S1_S_).sem
abbrev cell3_4 : DmaSem sig := ((cc0_scratch24.slice (Rect.unit (s := S5) ![4] S1.size inb_S5_S1_4)).squeeze S_ squeezes_S1_S_).sem
/-- The kernel's own DMA semaphores. -/
abbrev osem : Fin 47 → SemLoc sig := ![.dma cell0_0, .dma cell0_1, .dma cell0_2, .dma cell0_3, .dma cell0_4, .dma cell0_5, .dma cell0_6, .dma cell0_7, .dma cell0_8, .dma cell0_9, .dma cell1_0, .dma cell1_1, .dma cell1_2, .dma cell1_3, .dma cell1_4, .dma cell1_5, .dma cell1_6, .dma cell1_7, .dma cell1_8, .dma cell1_9, .dma cell1_10, .dma cell1_11, .dma cell1_12, .dma cell1_13, .dma cell1_14, .dma cell1_15, .dma cell2_0, .dma cell2_1, .dma cell2_2, .dma cell2_3, .dma cell2_4, .dma cell2_5, .dma cell2_6, .dma cell2_7, .dma cell2_8, .dma cell2_9, .dma cell2_10, .dma cell2_11, .dma cell2_12, .dma cell2_13, .dma cell2_14, .dma cell2_15, .dma cell3_0, .dma cell3_1, .dma cell3_2, .dma cell3_3, .dma cell3_4]
theorem ownSemFacts : Pipeline.OwnSemFacts cfg0.spec osem := by decide

/-- Every cell at zero. -/
abbrev cellsP (c : Dev nD) : sProp 𝕄 := iprop(semVal ((c : Thread nD τ), SemLoc.dma cell0_0) 0 ∗ semVal ((c : Thread nD τ), SemLoc.dma cell0_1) 0 ∗ semVal ((c : Thread nD τ), SemLoc.dma cell0_2) 0 ∗ semVal ((c : Thread nD τ), SemLoc.dma cell0_3) 0 ∗ semVal ((c : Thread nD τ), SemLoc.dma cell0_4) 0 ∗ semVal ((c : Thread nD τ), SemLoc.dma cell0_5) 0 ∗ semVal ((c : Thread nD τ), SemLoc.dma cell0_6) 0 ∗ semVal ((c : Thread nD τ), SemLoc.dma cell0_7) 0 ∗ semVal ((c : Thread nD τ), SemLoc.dma cell0_8) 0 ∗ semVal ((c : Thread nD τ), SemLoc.dma cell0_9) 0 ∗ semVal ((c : Thread nD τ), SemLoc.dma cell1_0) 0 ∗ semVal ((c : Thread nD τ), SemLoc.dma cell1_1) 0 ∗ semVal ((c : Thread nD τ), SemLoc.dma cell1_2) 0 ∗ semVal ((c : Thread nD τ), SemLoc.dma cell1_3) 0 ∗ semVal ((c : Thread nD τ), SemLoc.dma cell1_4) 0 ∗ semVal ((c : Thread nD τ), SemLoc.dma cell1_5) 0 ∗ semVal ((c : Thread nD τ), SemLoc.dma cell1_6) 0 ∗ semVal ((c : Thread nD τ), SemLoc.dma cell1_7) 0 ∗ semVal ((c : Thread nD τ), SemLoc.dma cell1_8) 0 ∗ semVal ((c : Thread nD τ), SemLoc.dma cell1_9) 0 ∗ semVal ((c : Thread nD τ), SemLoc.dma cell1_10) 0 ∗ semVal ((c : Thread nD τ), SemLoc.dma cell1_11) 0 ∗ semVal ((c : Thread nD τ), SemLoc.dma cell1_12) 0 ∗ semVal ((c : Thread nD τ), SemLoc.dma cell1_13) 0 ∗ semVal ((c : Thread nD τ), SemLoc.dma cell1_14) 0 ∗ semVal ((c : Thread nD τ), SemLoc.dma cell1_15) 0 ∗ semVal ((c : Thread nD τ), SemLoc.dma cell2_0) 0 ∗ semVal ((c : Thread nD τ), SemLoc.dma cell2_1) 0 ∗ semVal ((c : Thread nD τ), SemLoc.dma cell2_2) 0 ∗ semVal ((c : Thread nD τ), SemLoc.dma cell2_3) 0 ∗ semVal ((c : Thread nD τ), SemLoc.dma cell2_4) 0 ∗ semVal ((c : Thread nD τ), SemLoc.dma cell2_5) 0 ∗ semVal ((c : Thread nD τ), SemLoc.dma cell2_6) 0 ∗ semVal ((c : Thread nD τ), SemLoc.dma cell2_7) 0 ∗ semVal ((c : Thread nD τ), SemLoc.dma cell2_8) 0 ∗ semVal ((c : Thread nD τ), SemLoc.dma cell2_9) 0 ∗ semVal ((c : Thread nD τ), SemLoc.dma cell2_10) 0 ∗ semVal ((c : Thread nD τ), SemLoc.dma cell2_11) 0 ∗ semVal ((c : Thread nD τ), SemLoc.dma cell2_12) 0 ∗ semVal ((c : Thread nD τ), SemLoc.dma cell2_13) 0 ∗ semVal ((c : Thread nD τ), SemLoc.dma cell2_14) 0 ∗ semVal ((c : Thread nD τ), SemLoc.dma cell2_15) 0 ∗ semVal ((c : Thread nD τ), SemLoc.dma cell3_0) 0 ∗ semVal ((c : Thread nD τ), SemLoc.dma cell3_1) 0 ∗ semVal ((c : Thread nD τ), SemLoc.dma cell3_2) 0 ∗ semVal ((c : Thread nD τ), SemLoc.dma cell3_3) 0 ∗ semVal ((c : Thread nD τ), SemLoc.dma cell3_4) 0)

/-- The operands at their contents. -/
abbrev insP (c : Dev nD) (a0 : (Ref.ty main_v0).Contents (Elt F)) (a1 : (Ref.ty main_arg1).Contents (Elt F)) (a2 : (Ref.ty main_v1).Contents (Elt F)) (a3 : (Ref.ty main_v2).Contents (Elt F)) (a4 : (Ref.ty main_arg4).Contents (Elt F)) (a5 : (Ref.ty main_v3).Contents (Elt F)) (a6 : (Ref.ty main_v4).Contents (Elt F)) (a7 : (Ref.ty main_v5).Contents (Elt F)) (a8 : (Ref.ty main_v6).Contents (Elt F)) (a9 : (Ref.ty main_arg9).Contents (Elt F)) (a10 : (Ref.ty main_v7).Contents (Elt F)) (a11 : (Ref.ty main_v8).Contents (Elt F)) : sProp 𝕄 := iprop(held c main_v0 a0 ∗ held c main_arg1 a1 ∗ held c main_v1 a2 ∗ held c main_v2 a3 ∗ held c main_arg4 a4 ∗ held c main_v3 a5 ∗ held c main_v4 a6 ∗ held c main_v5 a7 ∗ held c main_v6 a8 ∗ held c main_arg9 a9 ∗ held c main_v7 a10 ∗ held c main_v8 a11)
/-- The kernel's own VMEM buffers at given contents. -/
abbrev scrAt (c : Dev nD) (f0 : (Ref.ty cc0_scratch0).Contents (Elt F)) (f1 : (Ref.ty cc0_scratch1).Contents (Elt F)) (f2 : (Ref.ty cc0_scratch2).Contents (Elt F)) (f3 : (Ref.ty cc0_scratch3).Contents (Elt F)) (f4 : (Ref.ty cc0_scratch4).Contents (Elt F)) (f5 : (Ref.ty cc0_scratch5).Contents (Elt F)) (f6 : (Ref.ty cc0_scratch6).Contents (Elt F)) (f7 : (Ref.ty cc0_scratch7).Contents (Elt F)) (f8 : (Ref.ty cc0_scratch8).Contents (Elt F)) (f9 : (Ref.ty cc0_scratch9).Contents (Elt F)) (f10 : (Ref.ty cc0_scratch10).Contents (Elt F)) (f11 : (Ref.ty cc0_scratch11).Contents (Elt F)) (f12 : (Ref.ty cc0_scratch12).Contents (Elt F)) (f13 : (Ref.ty cc0_scratch13).Contents (Elt F)) (f14 : (Ref.ty cc0_scratch14).Contents (Elt F)) (f15 : (Ref.ty cc0_scratch15).Contents (Elt F)) (f16 : (Ref.ty cc0_scratch16).Contents (Elt F)) (f17 : (Ref.ty cc0_scratch17).Contents (Elt F)) (f18 : (Ref.ty cc0_scratch18).Contents (Elt F)) (f19 : (Ref.ty cc0_scratch19).Contents (Elt F)) (f20 : (Ref.ty cc0_scratch20).Contents (Elt F)) : sProp 𝕄 := iprop(held c cc0_scratch0 f0 ∗ held c cc0_scratch1 f1 ∗ held c cc0_scratch2 f2 ∗ held c cc0_scratch3 f3 ∗ held c cc0_scratch4 f4 ∗ held c cc0_scratch5 f5 ∗ held c cc0_scratch6 f6 ∗ held c cc0_scratch7 f7 ∗ held c cc0_scratch8 f8 ∗ held c cc0_scratch9 f9 ∗ held c cc0_scratch10 f10 ∗ held c cc0_scratch11 f11 ∗ held c cc0_scratch12 f12 ∗ held c cc0_scratch13 f13 ∗ held c cc0_scratch14 f14 ∗ held c cc0_scratch15 f15 ∗ held c cc0_scratch16 f16 ∗ held c cc0_scratch17 f17 ∗ held c cc0_scratch18 f18 ∗ held c cc0_scratch19 f19 ∗ held c cc0_scratch20 f20)
/-- The kernel's own VMEM buffers at any contents. -/
abbrev scrP (c : Dev nD) : sProp 𝕄 := iprop((∃ f, held c cc0_scratch0 f) ∗ (∃ f, held c cc0_scratch1 f) ∗ (∃ f, held c cc0_scratch2 f) ∗ (∃ f, held c cc0_scratch3 f) ∗ (∃ f, held c cc0_scratch4 f) ∗ (∃ f, held c cc0_scratch5 f) ∗ (∃ f, held c cc0_scratch6 f) ∗ (∃ f, held c cc0_scratch7 f) ∗ (∃ f, held c cc0_scratch8 f) ∗ (∃ f, held c cc0_scratch9 f) ∗ (∃ f, held c cc0_scratch10 f) ∗ (∃ f, held c cc0_scratch11 f) ∗ (∃ f, held c cc0_scratch12 f) ∗ (∃ f, held c cc0_scratch13 f) ∗ (∃ f, held c cc0_scratch14 f) ∗ (∃ f, held c cc0_scratch15 f) ∗ (∃ f, held c cc0_scratch16 f) ∗ (∃ f, held c cc0_scratch17 f) ∗ (∃ f, held c cc0_scratch18 f) ∗ (∃ f, held c cc0_scratch19 f) ∗ (∃ f, held c cc0_scratch20 f))

/-- The body on its buffers. -/
abbrev bodyG : Prog (TpuEff nD τ sig (Elt F) Λ₀ .tc) PUnit := cc0_convnext_block (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_arg9) (Memref.isWhole_whole _) (Memref.whole main_v7) (Memref.isWhole_whole _) (Memref.whole main_v8) (Memref.isWhole_whole _) (Memref.whole main_v9_0) (Memref.isWhole_whole _) (Memref.whole main_v9_1) (Memref.isWhole_whole _) (Memref.whole main_v9_2) (Memref.isWhole_whole _) (Memref.whole main_v9_3) (Memref.isWhole_whole _) (Memref.whole main_v9_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24

set_option maxHeartbeats 8000000 in
set_option maxRecDepth 65536 in
set_option sl_exec.dmaWindow true in
set_option sl_exec.rejoinFuel 64 in
/-- THE BODY: from the operands, the results' arrays at anything, the scratch buffers at anything and every cell at
    zero, the body ends with the operands as they were, the results at the values found by the run, every cell at zero. -/
def bodyRun (c : Dev nD) (a0 : (Ref.ty main_v0).Contents (Elt F)) (a1 : (Ref.ty main_arg1).Contents (Elt F)) (a2 : (Ref.ty main_v1).Contents (Elt F)) (a3 : (Ref.ty main_v2).Contents (Elt F)) (a4 : (Ref.ty main_arg4).Contents (Elt F)) (a5 : (Ref.ty main_v3).Contents (Elt F)) (a6 : (Ref.ty main_v4).Contents (Elt F)) (a7 : (Ref.ty main_v5).Contents (Elt F)) (a8 : (Ref.ty main_v6).Contents (Elt F)) (a9 : (Ref.ty main_arg9).Contents (Elt F)) (a10 : (Ref.ty main_v7).Contents (Elt F)) (a11 : (Ref.ty main_v8).Contents (Elt F))
    (f0 : (Ref.ty cc0_scratch0).Contents (Elt F)) (f1 : (Ref.ty cc0_scratch1).Contents (Elt F)) (f2 : (Ref.ty cc0_scratch2).Contents (Elt F)) (f3 : (Ref.ty cc0_scratch3).Contents (Elt F)) (f4 : (Ref.ty cc0_scratch4).Contents (Elt F)) (f5 : (Ref.ty cc0_scratch5).Contents (Elt F)) (f6 : (Ref.ty cc0_scratch6).Contents (Elt F)) (f7 : (Ref.ty cc0_scratch7).Contents (Elt F)) (f8 : (Ref.ty cc0_scratch8).Contents (Elt F)) (f9 : (Ref.ty cc0_scratch9).Contents (Elt F)) (f10 : (Ref.ty cc0_scratch10).Contents (Elt F)) (f11 : (Ref.ty cc0_scratch11).Contents (Elt F)) (f12 : (Ref.ty cc0_scratch12).Contents (Elt F)) (f13 : (Ref.ty cc0_scratch13).Contents (Elt F)) (f14 : (Ref.ty cc0_scratch14).Contents (Elt F)) (f15 : (Ref.ty cc0_scratch15).Contents (Elt F)) (f16 : (Ref.ty cc0_scratch16).Contents (Elt F)) (f17 : (Ref.ty cc0_scratch17).Contents (Elt F)) (f18 : (Ref.ty cc0_scratch18).Contents (Elt F)) (f19 : (Ref.ty cc0_scratch19).Contents (Elt F)) (f20 : (Ref.ty cc0_scratch20).Contents (Elt F)) (g0 : (Ref.ty main_v9_0).Contents (Elt F)) (g1 : (Ref.ty main_v9_1).Contents (Elt F)) (g2 : (Ref.ty main_v9_2).Contents (Elt F)) (g3 : (Ref.ty main_v9_3).Contents (Elt F)) (g4 : (Ref.ty main_v9_4).Contents (Elt F)) :
    { w : (Ref.ty main_v9_0).Contents (Elt F) × (Ref.ty main_v9_1).Contents (Elt F) × (Ref.ty main_v9_2).Contents (Elt F) × (Ref.ty main_v9_3).Contents (Elt F) × (Ref.ty main_v9_4).Contents (Elt F) //
      ∀ (W : Waits sig Unit) (Q : PUnit → sProp 𝕄),
      iprop((insP c a0 a1 a2 a3 a4 a5 a6 a7 a8 a9 a10 a11 ∗ held c main_v9_0 g0 ∗ held c main_v9_1 g1 ∗ held c main_v9_2 g2 ∗ held c main_v9_3 g3 ∗ held c main_v9_4 g4 ∗ scrAt c f0 f1 f2 f3 f4 f5 f6 f7 f8 f9 f10 f11 f12 f13 f14 f15 f16 f17 f18 f19 f20 ∗ cellsP c ∗ owes (c : Thread nD τ) 0 W)
        ∗ ((insP c a0 a1 a2 a3 a4 a5 a6 a7 a8 a9 a10 a11 ∗ held c main_v9_0 w.1 ∗ held c main_v9_1 w.2.1 ∗ held c main_v9_2 w.2.2.1 ∗ held c main_v9_3 w.2.2.2.1 ∗ held c main_v9_4 w.2.2.2.2 ∗ scrP c ∗ cellsP c ∗ ∃ W, owes (c : Thread nD τ) 0 W) -∗ Q ⟨⟩))
      ⊢ wp frame (wpE (defs₀ (F := F)) 𝒱₀ (c : Thread nD τ) none) Set.univ (bodyG (F := F)) Q } := by
  refine ⟨⟨?w0, ?w1, ?w2, ?w3, ?w4⟩, ?run⟩
  case run =>
    intro W Q
    iintro ⟨⟨⟨HI0, HI1, HI2, HI3, HI4, HI5, HI6, HI7, HI8, HI9, HI10, HI11⟩, HO0, HO1, HO2, HO3, HO4, ⟨HS0, HS1, HS2, HS3, HS4, HS5, HS6, HS7, HS8, HS9, HS10, HS11, HS12, HS13, HS14, HS15, HS16, HS17, HS18, HS19, HS20⟩, ⟨HC0, HC1, HC2, HC3, HC4, HC5, HC6, HC7, HC8, HC9, HC10, HC11, HC12, HC13, HC14, HC15, HC16, HC17, HC18, HC19, HC20, HC21, HC22, HC23, HC24, HC25, HC26, HC27, HC28, HC29, HC30, HC31, HC32, HC33, HC34, HC35, HC36, HC37, HC38, HC39, HC40, HC41, HC42, HC43, HC44, HC45, HC46⟩, HW⟩, Hk⟩
    sl_exec
    sl_step
    iapply Hk
    isplitl [HI0 HI1 HI2 HI3 HI4 HI5 HI6 HI7 HI8 HI9 HI10 HI11]
    · isplitl [HI0]; · iexact HI0
      isplitl [HI1]; · iexact HI1
      isplitl [HI2]; · iexact HI2
      isplitl [HI3]; · iexact HI3
      isplitl [HI4]; · iexact HI4
      isplitl [HI5]; · iexact HI5
      isplitl [HI6]; · iexact HI6
      isplitl [HI7]; · iexact HI7
      isplitl [HI8]; · iexact HI8
      isplitl [HI9]; · iexact HI9
      isplitl [HI10]; · iexact HI10
      iexact HI11
    isplitl [HO0]; · iexact HO0
    isplitl [HO1]; · iexact HO1
    isplitl [HO2]; · iexact HO2
    isplitl [HO3]; · iexact HO3
    isplitl [HO4]; · iexact HO4
    isplitl [HS0 HS1 HS2 HS3 HS4 HS5 HS6 HS7 HS8 HS9 HS10 HS11 HS12 HS13 HS14 HS15 HS16 HS17 HS18 HS19 HS20]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      isplitl [HS14]; · iexists _; iexact HS14
      isplitl [HS15]; · iexists _; iexact HS15
      isplitl [HS16]; · iexists _; iexact HS16
      isplitl [HS17]; · iexists _; iexact HS17
      isplitl [HS18]; · iexists _; iexact HS18
      isplitl [HS19]; · iexists _; iexact HS19
      iexists _; iexact HS20
    isplitl [HC0 HC1 HC2 HC3 HC4 HC5 HC6 HC7 HC8 HC9 HC10 HC11 HC12 HC13 HC14 HC15 HC16 HC17 HC18 HC19 HC20 HC21 HC22 HC23 HC24 HC25 HC26 HC27 HC28 HC29 HC30 HC31 HC32 HC33 HC34 HC35 HC36 HC37 HC38 HC39 HC40 HC41 HC42 HC43 HC44 HC45 HC46]
    · isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      isplitl [HC9]; · iexact HC9
      isplitl [HC10]; · iexact HC10
      isplitl [HC11]; · iexact HC11
      isplitl [HC12]; · iexact HC12
      isplitl [HC13]; · iexact HC13
      isplitl [HC14]; · iexact HC14
      isplitl [HC15]; · iexact HC15
      isplitl [HC16]; · iexact HC16
      isplitl [HC17]; · iexact HC17
      isplitl [HC18]; · iexact HC18
      isplitl [HC19]; · iexact HC19
      isplitl [HC20]; · iexact HC20
      isplitl [HC21]; · iexact HC21
      isplitl [HC22]; · iexact HC22
      isplitl [HC23]; · iexact HC23
      isplitl [HC24]; · iexact HC24
      isplitl [HC25]; · iexact HC25
      isplitl [HC26]; · iexact HC26
      isplitl [HC27]; · iexact HC27
      isplitl [HC28]; · iexact HC28
      isplitl [HC29]; · iexact HC29
      isplitl [HC30]; · iexact HC30
      isplitl [HC31]; · iexact HC31
      isplitl [HC32]; · iexact HC32
      isplitl [HC33]; · iexact HC33
      isplitl [HC34]; · iexact HC34
      isplitl [HC35]; · iexact HC35
      isplitl [HC36]; · iexact HC36
      isplitl [HC37]; · iexact HC37
      isplitl [HC38]; · iexact HC38
      isplitl [HC39]; · iexact HC39
      isplitl [HC40]; · iexact HC40
      isplitl [HC41]; · iexact HC41
      isplitl [HC42]; · iexact HC42
      isplitl [HC43]; · iexact HC43
      isplitl [HC44]; · iexact HC44
      isplitl [HC45]; · iexact HC45
      iexact HC46
    iexists _; iexact HW

end Cert.KernelIdeal.Body

end
-- ==== Proof.KernelIdealSteps.lean ====
module

public import proofs.«01_k».proof.Proof.KernelIdealBody

@[expose] public section

noncomputable section

namespace Cert.KernelIdeal.Steps

open Cert.KernelIdeal Cert.KernelIdeal.Gen Cert.KernelIdeal.Body
open Idealize.ShloMosaic Idealize.ShloMosaic.TcCoe

/-! The body's unrolled loops as recursions: each stored list of pieces is one step, repeated. -/

variable {F : FTy → Type} [FloatOps F]

/-- Column group `c` of row block `b` of the hidden array. -/
abbrev tileR (b c : ℕ) : Rect S256x8192 :=
  Rect.unit ![32 * (b % 8), 128 * (c % 64)] S32x128.size (Rect.inb₂ (by show 32 * (b % 8) + 32 ≤ 256; omega) (by show 128 * (c % 64) + 128 ≤ 8192; omega))
/-- Column group `c` of the row of image `b / 4`. -/
abbrev factR (b c : ℕ) : Rect S2x8192 :=
  Rect.unit ![(b % 8) / 4, 128 * (c % 64)] S1x128.size (Rect.inb₂ (by show (b % 8) / 4 + 1 ≤ 2; omega) (by show 128 * (c % 64) + 128 ≤ 8192; omega))
/-- Column group `c` of a row of 8192. -/
abbrev rowR (c : ℕ) : Rect S1x8192 :=
  Rect.unit ![0, 128 * (c % 64)] S1x128.size (Rect.inb₂ (by show 0 + 1 ≤ 1; omega) (by show 128 * (c % 64) + 128 ≤ 8192; omega))

variable (L18 : List (View.Piece (Elt F) S2x8192 .f32)) (B : Vec F S1x8192 .f32)

/-- The scaled and shifted hidden values of column group `c` of row block `b`, from the pieces stored so far. -/
def tileV (L : List (View.Piece (Elt F) S256x8192 .f32)) (b c : ℕ) : FVec F S32x128 .f32 :=
  k0_pay125 ((Memref.whole cc0_scratch12).view.readCov L (tileR b c).toLoadRect) ((Memref.whole cc0_scratch18).view.readCov L18 (factR b c).toLoadRect)
    (View.readAt (Elt F) (Memref.whole cc0_scratch8).view (rowR c).toLoadRect B)
/-- The pieces after `n` column groups of row block `b`, from those before the block. -/
def hs (L : List (View.Piece (Elt F) S256x8192 .f32)) (b : ℕ) : ℕ → List (View.Piece (Elt F) S256x8192 .f32)
  | 0 => L
  | n + 1 => ⟨tileR b n, shapeCast S32x128 (tileV L18 B (hs L b n) b n) shapeCasts_S32x128_S32x128⟩ :: hs L b n
/-- The lanewise greatest magnitude after `n` column groups. -/
def mx (L : List (View.Piece (Elt F) S256x8192 .f32)) (b : ℕ) : ℕ → FVec F S32x128 .f32
  | 0 => k0_pay124
  | n + 1 => maximumf (mx L b n) (absf (tileV L18 B (hs L18 B L b n) b n))

/-- The exponents of a block's scales, from the lanewise greatest magnitudes. -/
def gE (m : FVec F S32x128 .f32) : FVec F S32x1 .f32 :=
  let v : FVec F S32x1 .f32 := mulf (shapeCast S32x1 (multiReduction .maximumf [1] S32 m 0xFF800000#32 reduces_S32x128_S32 (.inl rfl) rfl : FVec F S32 .f32) shapeCasts_S32_S32x1)
    (broadcast S32x1 (Scalar.ofBits .f32 0x3B124925#32 : F .f32))
  select (ori (cmpf .oeq v (broadcast S32x1 (Scalar.ofBits .f32 0x00000000#32 : F .f32)))
      (xori (cmpf .olt (absf v) (broadcast S32x1 (Scalar.ofBits .f32 0x7F800000#32 : F .f32))) (constantI S32x1 1 1#1)))
    (broadcast S32x1 (Scalar.ofBits .f32 0x00000000#32 : F .f32))
    (addf (floor (divf (log v) (log (broadcast S32x1 (Scalar.ofBits .f32 0x40000000#32 : F .f32))))) (broadcast S32x1 (Scalar.ofBits .f32 0x3F800000#32 : F .f32)))
/-- A column, repeated over the lanes. -/
def gW (v : FVec F S32x1 .f32) : FVec F S1x32x128 .f32 :=
  shapeCast S1x32x128 (broadcastTo S32x128 (shapeCast S32x1 v shapeCasts_S32x1_S32x1 : FVec F S32x1 .f32) broadcasts_S32x1_S32x128 : FVec F S32x128 .f32) shapeCasts_S32x128_S1x32x128
/-- A block's scales. -/
def gS (m : FVec F S32x128 .f32) : FVec F S1x32x128 .f32 := gW (exp2 (gE m))
/-- A block's inverse scales. -/
def gI (m : FVec F S32x128 .f32) : FVec F S1x32x128 .f32 := gW (exp2 (subf (broadcast S32x1 (Scalar.ofBits .f32 0x00000000#32 : F .f32)) (gE m)))

variable (a0 : Vec F S16x16x2048 .bf16) (a1 : Vec F S256x2048 .f32) (a2 a3 : Vec F S1x2048 .f32) (a4 : Vec F S2048x8192 .fp8e4m3)
  (a5 a6 a7 a8 : Vec F S1x8192 .f32) (a9 : Vec F S8192x2048 .fp8e4m3) (a10 a11 : Vec F S1x2048 .f32)
variable (f0 : Vec F S16x16x2048 .bf16) (f1 : Vec F S256x2048 .f32) (f2 f3 : Vec F S1x2048 .f32) (f4 : Vec F S16x2048x512 .fp8e4m3)
  (f5 f6 f7 f8 : Vec F S1x8192 .f32) (f10 f11 : Vec F S1x2048 .f32)

/-- The affine map's shifts as the body holds them. -/
abbrev rowB : Vec F S1x8192 .f32 := View.write (Elt F) (Memref.whole cc0_scratch8).view f8 (bodyRun.sl.dma0_7 a8) Finset.univ

/-- Rows `32 b` to `32 b + 31` of an array of 256 rows. -/
abbrev blkR (b : ℕ) : Rect S256x2048 :=
  Rect.unit ![32 * (b % 8), 0] S32x2048.size (Rect.inb₂ (by show 32 * (b % 8) + 32 ≤ 256; omega) (by show 0 + 2048 ≤ 2048; omega))
abbrev colR (b : ℕ) : Rect S256x128 :=
  Rect.unit ![32 * (b % 8), 0] S32x128.size (Rect.inb₂ (by show 32 * (b % 8) + 32 ≤ 256; omega) (by show 0 + 128 ≤ 128; omega))
/-- Columns `512 j` to `512 j + 511`. -/
abbrev chR (j : ℕ) : Rect S256x8192 :=
  Rect.unit ![0, 512 * (j % 16)] S256x512.size (Rect.inb₂ (by show 0 + 256 ≤ 256; omega) (by show 512 * (j % 16) + 512 ≤ 8192; omega))
abbrev chN (j : ℕ) : Rect S2x8192 :=
  Rect.unit ![0, 512 * (j % 16)] S2x512.size (Rect.inb₂ (by show 0 + 2 ≤ 2; omega) (by show 512 * (j % 16) + 512 ≤ 8192; omega))
abbrev chW (j : ℕ) : Rect S2048x8192 :=
  Rect.unit ![0, 512 * (j % 16)] S2048x512.size (Rect.inb₂ (by show 0 + 2048 ≤ 2048; omega) (by show 512 * (j % 16) + 512 ≤ 8192; omega))
abbrev chB (j : ℕ) : Rect S1x8192 :=
  Rect.unit ![0, 512 * (j % 16)] S1x512.size (Rect.inb₂ (by show 0 + 1 ≤ 1; omega) (by show 512 * (j % 16) + 512 ≤ 8192; omega))
/-- Rows `512 j` to `512 j + 511` of the second weights. -/
abbrev rwW (j : ℕ) : Rect S8192x2048 :=
  Rect.unit ![512 * (j % 16), 0] S512x2048.size (Rect.inb₂ (by show 512 * (j % 16) + 512 ≤ 8192; omega) (by show 0 + 2048 ≤ 2048; omega))
/-- Chunk `j` of the first weights' buffer. -/
abbrev slW (j : ℕ) : Rect S16x2048x512 :=
  Rect.unit ![j % 16, 0, 0] S1x2048x512.size (Fin.forall_fin_succ.mpr ⟨by show j % 16 + 1 ≤ 16; omega, Fin.forall_fin_two.mpr ⟨by show 0 + 2048 ≤ 2048; omega, by show 0 + 512 ≤ 512; omega⟩⟩)
/-- Rows `32 b` to `32 b + 31` of half `i` of the scales' buffer. -/
abbrev scR (i b : ℕ) : Rect S2x256x128 :=
  Rect.unit ![i % 2, 32 * (b % 8), 0] S1x32x128.size (Fin.forall_fin_succ.mpr ⟨by show i % 2 + 1 ≤ 2; omega, Fin.forall_fin_two.mpr ⟨by show 32 * (b % 8) + 32 ≤ 256; omega, by show 0 + 128 ≤ 128; omega⟩⟩)

/-- Row block `b` of the convolution's output, as loaded. -/
def yB (b : ℕ) : Vec F S32x2048 .f32 :=
  View.readAt (Elt F) (Memref.whole cc0_scratch1).view (blkR b).toLoadRect (View.write (Elt F) (Memref.whole cc0_scratch1).view f1 (bodyRun.sl.dma0_1 a1) Finset.univ)
/-- The first codes of one row block. -/
def lnQ (y : Vec F S32x2048 .f32) (g b : Vec F S1x2048 .f32) : FVec F S32x2048 .fp8e4m3 :=
  k0_pay5 (k0_pay1 y g b) (k0_pay2 y g b) (k0_pay3 y g b) (FloatOps.ofBits .f32 1065353216#32)
/-- The first scales of one row block. -/
def lnS (y : Vec F S32x2048 .f32) (g b : Vec F S1x2048 .f32) : FVec F S32x128 .f32 :=
  k0_pay6 (k0_pay2 y g b) (k0_pay3 y g b) (FloatOps.ofBits .f32 1065353216#32)
/-- The pieces of the first codes, block after block. -/
def q1L : ℕ → List (View.Piece (Elt F) S256x2048 .fp8e4m3)
  | 0 => []
  | n + 1 => ⟨blkR n, lnQ (yB a1 f1 n) (bodyRun.sl.v201 a2 f2) (bodyRun.sl.v204 a3 f3)⟩ :: q1L n
/-- The pieces of the first scales. -/
def s1L : ℕ → List (View.Piece (Elt F) S256x128 .f32)
  | 0 => []
  | n + 1 => ⟨colR n, lnS (yB a1 f1 n) (bodyRun.sl.v201 a2 f2) (bodyRun.sl.v204 a3 f3)⟩ :: s1L n
set_option maxHeartbeats 4000000 in
theorem q1L_eq : bodyRun.sl.HS13_8 a1 a2 a3 f1 f2 f3 = q1L a1 a2 a3 f1 f2 f3 8 := rfl
set_option maxHeartbeats 4000000 in
theorem s1L_eq : bodyRun.sl.HS15_8 a1 a2 a3 f1 f2 f3 = s1L a1 a2 a3 f1 f2 f3 8 := rfl

/-- The first weights' buffer after `n` of its sixteen transfers. -/
def w1B : ℕ → Vec F S16x2048x512 .fp8e4m3
  | 0 => f4
  | n + 1 => View.write (Elt F) (((Memref.whole cc0_scratch4).slice (slW n) (fun _ => rfl)).squeeze S2048x512 squeezes_S1x2048x512_S2048x512).view (w1B n)
      (ReadAs.same.apply (View.read (Elt F) ((Memref.whole main_arg4).slice (chW n) (fun _ => rfl)).view a4)) Finset.univ
/-- Chunk `j` of the first weights, as loaded. -/
def w1C (j : ℕ) : Vec F S1x2048x512 .fp8e4m3 :=
  View.readAt (Elt F) (Memref.whole cc0_scratch4).view (slW j).toLoadRect (w1B a4 f4 16)
/-- Chunk `j` of the first weights' scales and of the first biases. -/
def b5C (j : ℕ) : Vec F S1x512 .f32 :=
  View.readAt (Elt F) (Memref.whole cc0_scratch5).view (chB j).toLoadRect (View.write (Elt F) (Memref.whole cc0_scratch5).view f5 (bodyRun.sl.dma0_4 a5) Finset.univ)
def b6C (j : ℕ) : Vec F S1x512 .f32 :=
  View.readAt (Elt F) (Memref.whole cc0_scratch6).view (chB j).toLoadRect (View.write (Elt F) (Memref.whole cc0_scratch6).view f6 (bodyRun.sl.dma0_5 a6) Finset.univ)
/-- The hidden values and their squares' sums of one chunk, from codes `q`, scales `s`, weights `w`, weight scales `u` and biases `v`. -/
def hidC (q : Vec F S256x2048 .fp8e4m3) (w : Vec F S1x2048x512 .fp8e4m3) (s : Vec F S256x1 .f32) (u v : Vec F S1x512 .f32) : FVec F S256x512 .f32 :=
  k0_pay63 (k0_pay60 q w s u v) (k0_pay61 q w s u v)
def sqC (q : Vec F S256x2048 .fp8e4m3) (w : Vec F S1x2048x512 .fp8e4m3) (s : Vec F S256x1 .f32) (u v : Vec F S1x512 .f32) : FVec F S2x512 .f32 :=
  k0_pay64 (k0_pay60 q w s u v) (k0_pay61 q w s u v)
/-- The pieces of the hidden values, chunk after chunk. -/
def hL : ℕ → List (View.Piece (Elt F) S256x8192 .f32)
  | 0 => []
  | n + 1 => ⟨chR n, hidC (bodyRun.sl.v693 a1 a2 a3 f1 f2 f3) (w1C a4 f4 n) (bodyRun.sl.v697 a1 a2 a3 f1 f2 f3) (b5C a5 f5 n) (b6C a6 f6 n)⟩ :: hL n
/-- The pieces of the sums of squares. -/
def nL : ℕ → List (View.Piece (Elt F) S2x8192 .f32)
  | 0 => []
  | n + 1 => ⟨chN n, sqC (bodyRun.sl.v693 a1 a2 a3 f1 f2 f3) (w1C a4 f4 n) (bodyRun.sl.v697 a1 a2 a3 f1 f2 f3) (b5C a5 f5 n) (b6C a6 f6 n)⟩ :: nL n
set_option maxHeartbeats 4000000 in
theorem hL_eq : bodyRun.sl.HS12_16 a1 a2 a3 a4 a5 a6 f1 f2 f3 f4 f5 f6 = hL a1 a2 a3 a4 a5 a6 f1 f2 f3 f4 f5 f6 16 := rfl
set_option maxHeartbeats 4000000 in
theorem nL_eq : bodyRun.sl.HS17_16 a1 a2 a3 a4 a5 a6 f1 f2 f3 f4 f5 f6 = nL a1 a2 a3 a4 a5 a6 f1 f2 f3 f4 f5 f6 16 := rfl

/-- The hidden array's pieces before row block `b` is scaled. -/
def blk : ℕ → List (View.Piece (Elt F) S256x8192 .f32)
  | 0 => bodyRun.sl.HS12_16 a1 a2 a3 a4 a5 a6 f1 f2 f3 f4 f5 f6
  | b + 1 => hs (bodyRun.sl.HS18_1 a1 a2 a3 a4 a5 a6 a7 f1 f2 f3 f4 f5 f6 f7) (rowB a8 f8) (blk b) b 64
set_option maxRecDepth 65536 in
set_option maxHeartbeats 4000000 in
theorem hs_blk0 : bodyRun.sl.HS12_80 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_16 a1 a2 a3 a4 a5 a6 f1 f2 f3 f4 f5 f6) 0 64 := rfl
set_option maxRecDepth 65536 in
set_option maxHeartbeats 4000000 in
theorem hs_blk1 : bodyRun.sl.HS12_144 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_80 a1 a2 a3 a4 a5 a6 a7 a8 f1 f2 f3 f4 f5 f6 f7 f8) 1 64 := rfl
set_option maxRecDepth 65536 in
set_option maxHeartbeats 4000000 in
theorem hs_blk2 : bodyRun.sl.HS12_208 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_144 a1 a2 a3 a4 a5 a6 a7 a8 f1 f2 f3 f4 f5 f6 f7 f8) 2 64 := rfl
set_option maxRecDepth 65536 in
set_option maxHeartbeats 4000000 in
theorem hs_blk3 : bodyRun.sl.HS12_272 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_208 a1 a2 a3 a4 a5 a6 a7 a8 f1 f2 f3 f4 f5 f6 f7 f8) 3 64 := rfl
set_option maxRecDepth 65536 in
set_option maxHeartbeats 4000000 in
theorem hs_blk4 : bodyRun.sl.HS12_336 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_272 a1 a2 a3 a4 a5 a6 a7 a8 f1 f2 f3 f4 f5 f6 f7 f8) 4 64 := rfl
set_option maxRecDepth 65536 in
set_option maxHeartbeats 4000000 in
theorem hs_blk5 : bodyRun.sl.HS12_400 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_336 a1 a2 a3 a4 a5 a6 a7 a8 f1 f2 f3 f4 f5 f6 f7 f8) 5 64 := rfl
set_option maxRecDepth 65536 in
set_option maxHeartbeats 4000000 in
theorem hs_blk6 : bodyRun.sl.HS12_464 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_400 a1 a2 a3 a4 a5 a6 a7 a8 f1 f2 f3 f4 f5 f6 f7 f8) 6 64 := rfl
set_option maxRecDepth 65536 in
set_option maxHeartbeats 4000000 in
theorem hs_blk7 : bodyRun.sl.HS12_528 a1 a2 a3 a4 a5 a6 a7 a8 f1 f2 f3 f4 f5 f6 f7 f8 = hs (bodyRun.sl.HS18_1 a1 a2 a3 a4 a5 a6 a7 f1 f2 f3 f4 f5 f6 f7) (rowB a8 f8) (bodyRun.sl.HS12_464 a1 a2 a3 a4 a5 a6 a7 a8 f1 f2 f3 f4 f5 f6 f7 f8) 7 64 := rfl
theorem blk1 : bodyRun.sl.HS12_80 a1 a2 a3 a4 a5 a6 a7 a8 f1 f2 f3 f4 f5 f6 f7 f8 = blk a1 a2 a3 a4 a5 a6 a7 a8 f1 f2 f3 f4 f5 f6 f7 f8 1 := (hs_blk0 a1 a2 a3 a4 a5 a6 a7 a8 f1 f2 f3 f4 f5 f6 f7 f8).trans (by rw [blk, blk])
theorem blk2 : bodyRun.sl.HS12_144 a1 a2 a3 a4 a5 a6 a7 a8 f1 f2 f3 f4 f5 f6 f7 f8 = blk a1 a2 a3 a4 a5 a6 a7 a8 f1 f2 f3 f4 f5 f6 f7 f8 2 := (hs_blk1 a1 a2 a3 a4 a5 a6 a7 a8 f1 f2 f3 f4 f5 f6 f7 f8).trans (by rw [blk1]; rfl)
theorem blk3 : bodyRun.sl.HS12_208 a1 a2 a3 a4 a5 a6 a7 a8 f1 f2 f3 f4 f5 f6 f7 f8 = blk a1 a2 a3 a4 a5 a6 a7 a8 f1 f2 f3 f4 f5 f6 f7 f8 3 := (hs_blk2 a1 a2 a3 a4 a5 a6 a7 a8 f1 f2 f3 f4 f5 f6 f7 f8).trans (by rw [blk2]; rfl)
theorem blk4 : bodyRun.sl.HS12_272 a1 a2 a3 a4 a5 a6 a7 a8 f1 f2 f3 f4 f5 f6 f7 f8 = blk a1 a2 a3 a4 a5 a6 a7 a8 f1 f2 f3 f4 f5 f6 f7 f8 4 := (hs_blk3 a1 a2 a3 a4 a5 a6 a7 a8 f1 f2 f3 f4 f5 f6 f7 f8).trans (by rw [blk3]; rfl)
theorem blk5 : bodyRun.sl.HS12_336 a1 a2 a3 a4 a5 a6 a7 a8 f1 f2 f3 f4 f5 f6 f7 f8 = blk a1 a2 a3 a4 a5 a6 a7 a8 f1 f2 f3 f4 f5 f6 f7 f8 5 := (hs_blk4 a1 a2 a3 a4 a5 a6 a7 a8 f1 f2 f3 f4 f5 f6 f7 f8).trans (by rw [blk4]; rfl)
theorem blk6 : bodyRun.sl.HS12_400 a1 a2 a3 a4 a5 a6 a7 a8 f1 f2 f3 f4 f5 f6 f7 f8 = blk a1 a2 a3 a4 a5 a6 a7 a8 f1 f2 f3 f4 f5 f6 f7 f8 6 := (hs_blk5 a1 a2 a3 a4 a5 a6 a7 a8 f1 f2 f3 f4 f5 f6 f7 f8).trans (by rw [blk5]; rfl)
theorem blk7 : bodyRun.sl.HS12_464 a1 a2 a3 a4 a5 a6 a7 a8 f1 f2 f3 f4 f5 f6 f7 f8 = blk a1 a2 a3 a4 a5 a6 a7 a8 f1 f2 f3 f4 f5 f6 f7 f8 7 := (hs_blk6 a1 a2 a3 a4 a5 a6 a7 a8 f1 f2 f3 f4 f5 f6 f7 f8).trans (by rw [blk6]; rfl)
theorem blk8 : bodyRun.sl.HS12_528 a1 a2 a3 a4 a5 a6 a7 a8 f1 f2 f3 f4 f5 f6 f7 f8 = blk a1 a2 a3 a4 a5 a6 a7 a8 f1 f2 f3 f4 f5 f6 f7 f8 8 := (hs_blk7 a1 a2 a3 a4 a5 a6 a7 a8 f1 f2 f3 f4 f5 f6 f7 f8).trans (by rw [blk7]; rfl)

/-- The pieces of the second scales and inverses, from the hidden array's pieces `H b` before each row block. -/
def sL (L18 : List (View.Piece (Elt F) S2x8192 .f32)) (B : Vec F S1x8192 .f32) (H : ℕ → List (View.Piece (Elt F) S256x8192 .f32)) : ℕ → List (View.Piece (Elt F) S2x256x128 .f32)
  | 0 => []
  | n + 1 => ⟨scR 1 n, gI (mx L18 B (H n) n 64)⟩ :: ⟨scR 0 n, gS (mx L18 B (H n) n 64)⟩ :: sL L18 B H n
set_option maxRecDepth 65536 in
set_option maxHeartbeats 8000000 in
theorem sL_raw : bodyRun.sl.HS16_16 a1 a2 a3 a4 a5 a6 a7 a8 f1 f2 f3 f4 f5 f6 f7 f8 = sL (bodyRun.sl.HS18_1 a1 a2 a3 a4 a5 a6 a7 f1 f2 f3 f4 f5 f6 f7) (rowB a8 f8) (fun b => match b with
    | 0 => bodyRun.sl.HS12_16 a1 a2 a3 a4 a5 a6 f1 f2 f3 f4 f5 f6
    | 1 => bodyRun.sl.HS12_80 a1 a2 a3 a4 a5 a6 a7 a8 f1 f2 f3 f4 f5 f6 f7 f8
    | 2 => bodyRun.sl.HS12_144 a1 a2 a3 a4 a5 a6 a7 a8 f1 f2 f3 f4 f5 f6 f7 f8
    | 3 => bodyRun.sl.HS12_208 a1 a2 a3 a4 a5 a6 a7 a8 f1 f2 f3 f4 f5 f6 f7 f8
    | 4 => bodyRun.sl.HS12_272 a1 a2 a3 a4 a5 a6 a7 a8 f1 f2 f3 f4 f5 f6 f7 f8
    | 5 => bodyRun.sl.HS12_336 a1 a2 a3 a4 a5 a6 a7 a8 f1 f2 f3 f4 f5 f6 f7 f8
    | 6 => bodyRun.sl.HS12_400 a1 a2 a3 a4 a5 a6 a7 a8 f1 f2 f3 f4 f5 f6 f7 f8
    | _ => bodyRun.sl.HS12_464 a1 a2 a3 a4 a5 a6 a7 a8 f1 f2 f3 f4 f5 f6 f7 f8) 8 := rfl
theorem sL_eq : bodyRun.sl.HS16_16 a1 a2 a3 a4 a5 a6 a7 a8 f1 f2 f3 f4 f5 f6 f7 f8 = sL (bodyRun.sl.HS18_1 a1 a2 a3 a4 a5 a6 a7 f1 f2 f3 f4 f5 f6 f7) (rowB a8 f8) (blk a1 a2 a3 a4 a5 a6 a7 a8 f1 f2 f3 f4 f5 f6 f7 f8) 8 := by
  rw [sL_raw]; simp only [sL]
  rw [blk1, blk2, blk3, blk4, blk5, blk6, blk7]
  rfl

/-- Column chunk `j` of the finished hidden array. -/
def hC (j : ℕ) : Vec F S256x512 .f32 := (Memref.whole cc0_scratch12).view.readCov (bodyRun.sl.HS12_528 a1 a2 a3 a4 a5 a6 a7 a8 f1 f2 f3 f4 f5 f6 f7 f8) (chR j).toLoadRect
/-- The second weights' pieces: sixteen transfers of 512 rows. -/
def w2L : ℕ → List (View.Piece (Elt F) S8192x2048 .fp8e4m3)
  | 0 => []
  | n + 1 => ⟨rwW n, ReadAs.same.apply (View.read (Elt F) ((Memref.whole main_arg9).slice (rwW n) (fun _ => rfl)).view a9)⟩ :: w2L n
/-- Chunk `j` of the second weights, as loaded. -/
def w2C (j : ℕ) : Vec F S512x2048 .fp8e4m3 := (Memref.whole cc0_scratch9).view.readCov (w2L a9 16) (rwW j).toLoadRect
/-- The second codes, chunk after chunk. -/
def q2L : ℕ → List (View.Piece (Elt F) S256x8192 .fp8e4m3)
  | 0 => []
  | n + 1 => ⟨chR n, k0_pay1434 (hC a1 a2 a3 a4 a5 a6 a7 a8 f1 f2 f3 f4 f5 f6 f7 f8 n) (bodyRun.sl.v7695 a1 a2 a3 a4 a5 a6 a7 a8 f1 f2 f3 f4 f5 f6 f7 f8)⟩ :: q2L n
/-- The accumulator, chunk after chunk. -/
def accL : ℕ → List (View.Piece (Elt F) S256x2048 .f32)
  | 0 => [⟨Rect.unit ![0, 0] S256x2048.size inb_S256x2048_S256x2048_0_0, k0_pay1435 (hC a1 a2 a3 a4 a5 a6 a7 a8 f1 f2 f3 f4 f5 f6 f7 f8 0) (bodyRun.sl.v7695 a1 a2 a3 a4 a5 a6 a7 a8 f1 f2 f3 f4 f5 f6 f7 f8) (w2C a9 0)⟩]
  | n + 1 => ⟨Rect.unit ![0, 0] S256x2048.size inb_S256x2048_S256x2048_0_0, k0_pay1438 (hC a1 a2 a3 a4 a5 a6 a7 a8 f1 f2 f3 f4 f5 f6 f7 f8 (n + 1)) (bodyRun.sl.v7695 a1 a2 a3 a4 a5 a6 a7 a8 f1 f2 f3 f4 f5 f6 f7 f8) (w2C a9 (n + 1))
      ((Memref.whole cc0_scratch19).view.readCov (accL n) (Rect.unit ![0, 0] S256x2048.size inb_S256x2048_S256x2048_0_0).toLoadRect)⟩ :: accL n
set_option maxRecDepth 65536 in
set_option maxHeartbeats 4000000 in
theorem q2L_eq : bodyRun.sl.HS14_16 a1 a2 a3 a4 a5 a6 a7 a8 f1 f2 f3 f4 f5 f6 f7 f8 = q2L a1 a2 a3 a4 a5 a6 a7 a8 f1 f2 f3 f4 f5 f6 f7 f8 16 := rfl
set_option maxRecDepth 65536 in
set_option maxHeartbeats 4000000 in
theorem accL_eq : bodyRun.sl.HS19_16 a1 a2 a3 a4 a5 a6 a7 a8 a9 f1 f2 f3 f4 f5 f6 f7 f8 = accL a1 a2 a3 a4 a5 a6 a7 a8 a9 f1 f2 f3 f4 f5 f6 f7 f8 15 := rfl

end Cert.KernelIdeal.Steps

end
-- ==== Proof.Net.lean ====
module

public import Idealize.ShloMosaic.Lib.Pipeline.Value
public import Idealize.ShloMosaic.Lib.Pointwise

@[expose] public section

noncomputable section

namespace Cert.Net

open Idealize.ShloMosaic

/-! The block's mathematics on index functions over the extended reals: one definition per step. -/

/-- The normalised row: centred, divided by the deviation, scaled and shifted. -/
def zF (y g b : Fin 2048 → EReal) (k : Fin 2048) : EReal :=
  (y k - Ideal.div (∑ x, y x) (Ideal.ofBits FTy.f32 1157627904#32))
    * Ideal.rsqrt (Ideal.div (∑ x, (y x - Ideal.div (∑ x, y x) (Ideal.ofBits FTy.f32 1157627904#32)) * (y x - Ideal.div (∑ x, y x) (Ideal.ofBits FTy.f32 1157627904#32)))
        (Ideal.ofBits FTy.f32 1157627904#32) + Ideal.ofBits FTy.f32 897988541#32) * g k + b k
/-- A row's greatest magnitude. -/
def amaxF {n : ℕ} (v : Fin n → EReal) : EReal :=
  Finset.fold max (Ideal.ofBits FTy.f32 4286578688#32) (fun x => FloatOps.absf (F := Ideal) (φ := .f32) (v x)) Finset.univ
/-- The exponent of the scale of a row whose greatest magnitude over 448 is `t`: nought for a row of zeros or one that is not finite. -/
def expF (t : EReal) : EReal :=
  Scalar.select (IntOp.ori (BitVec.ofBool (decide (t = 0)))
      (IntOp.xori (BitVec.ofBool (decide (FloatOps.absf (F := Ideal) (φ := .f32) t < Ideal.ofBits FTy.f32 2139095040#32))) 1#1))
    (0 : EReal) (Ideal.liftRound Int.floor (Ideal.div (Ideal.log t) (Ideal.log (Ideal.ofBits FTy.f32 1073741824#32))) + 1)
/-- The exponent of a row's scale. -/
def rowE {n : ℕ} (v : Fin n → EReal) : EReal := expF (amaxF v * Ideal.ofBits FTy.f32 991054117#32)
/-- A row's scale. -/
def scF (e : EReal) : EReal := FloatOps.exp2 (F := Ideal) (φ := .f32) e
/-- One code: the value over the scale, clipped to the format's range. -/
def codeF (x i : EReal) : EReal := min (Ideal.ofBits FTy.f32 1138753536#32) (max (Ideal.ofBits FTy.f32 3286237184#32) (x * i))
/-- The inverse scale. -/
def invF (e : EReal) : EReal := FloatOps.exp2 (F := Ideal) (φ := .f32) (0 - e)
/-- The exact gelu. -/
def geluF (t : EReal) : EReal :=
  Ideal.ofBits FTy.f32 1056964608#32 * t * (1 + FloatOps.erf (F := Ideal) (φ := .f32) (t * Ideal.ofBits FTy.f32 1060439283#32))
/-- The hidden values before the response normalisation. -/
def hidF (q : Fin 256 → Fin 2048 → EReal) (s : Fin 256 → EReal) (w : Fin 2048 → Fin 8192 → EReal) (u v : Fin 8192 → EReal) (r : Fin 256) (k : Fin 8192) : EReal :=
  geluF ((∑ x, q r x * w x k) * s r * u k + v k)
/-- The sum of squares of column `k` over image `i`. -/
def sqF (h : Fin 256 → Fin 8192 → EReal) (i : Fin 2) (k : Fin 8192) : EReal :=
  ∑ x : Fin 128, h ⟨i.val * 128 + x.val, by omega⟩ k * h ⟨i.val * 128 + x.val, by omega⟩ k
/-- The response of column `k` of image `i`: its norm over the mean norm. -/
def respF (h : Fin 256 → Fin 8192 → EReal) (i : Fin 2) (k : Fin 8192) : EReal :=
  Ideal.div (Ideal.sqrt (sqF h i k))
    (Ideal.div (∑ x, Ideal.sqrt (sqF h i x)) (Ideal.ofBits FTy.f32 1174405120#32) + Ideal.ofBits FTy.f32 897988541#32)
/-- The image of a row. -/
def img (r : Fin 256) : Fin 2 := ⟨r.val / 128, by omega⟩
/-- The response normalisation with one factor per column. -/
def grnK (h : Fin 256 → Fin 8192 → EReal) (g b : Fin 8192 → EReal) (r : Fin 256) (k : Fin 8192) : EReal :=
  h r k * (g k * respF h (img r) k + 1) + b k
/-- The response normalisation as usually written. -/
def grnR (h : Fin 256 → Fin 8192 → EReal) (g b : Fin 8192 → EReal) (r : Fin 256) (k : Fin 8192) : EReal :=
  g k * (h r k * respF h (img r) k) + b k + h r k

/-! The whole block, from the convolution's output on. -/

section
variable (y : Fin 256 → Fin 2048 → EReal) (g b : Fin 2048 → EReal) (w : Fin 2048 → Fin 8192 → EReal) (u v gg gb : Fin 8192 → EReal)
  (w2 : Fin 8192 → Fin 2048 → EReal) (u2 v2 : Fin 2048 → EReal)
/-- The first quantisation's exponents, codes and scales. -/
def e1 (r : Fin 256) : EReal := rowE (zF (y r) g b)
def q1 (r : Fin 256) (k : Fin 2048) : EReal := codeF (zF (y r) g b k) (invF (e1 y g b r))
def s1 (r : Fin 256) : EReal := scF (e1 y g b r)
/-- The hidden values. -/
def hid (r : Fin 256) (k : Fin 8192) : EReal := hidF (q1 y g b) (s1 y g b) w u v r k
/-- The normalised hidden values. -/
def hn (r : Fin 256) (k : Fin 8192) : EReal := grnR (hid y g b w u v) gg gb r k
/-- The second quantisation's exponents, codes and scales. -/
def e2 (r : Fin 256) : EReal := rowE (hn y g b w u v gg gb r)
def q2 (r : Fin 256) (k : Fin 8192) : EReal := codeF (hn y g b w u v gg gb r k) (invF (e2 y g b w u v gg gb r))
def s2 (r : Fin 256) : EReal := scF (e2 y g b w u v gg gb r)
/-- The second product, scaled and shifted. -/
def mF (r : Fin 256) (n : Fin 2048) : EReal := (∑ k, q2 y g b w u v gg gb r k * w2 k n) * s2 y g b w u v gg gb r * u2 n + v2 n
end

/-! ## The two spellings of the response normalisation agree, on every extended real -/

theorem c8192 : Ideal.ofBits FTy.f32 1174405120#32 = ((8192 : ℝ) : EReal) := by
  simp [Ideal.ofBits, Ideal.ieee, -EReal.coe_mul]; norm_num
theorem ceps : ∃ ε : ℝ, 0 < ε ∧ Ideal.ofBits FTy.f32 897988541#32 = (ε : EReal) := by
  refine ⟨_, ?_, by simp [Ideal.ofBits, Ideal.ieee, -EReal.coe_mul]; rfl⟩
  norm_num

theorem sq_nonneg' (x : EReal) : 0 ≤ x * x := by
  induction x using EReal.rec with
  | bot => simp
  | top => simp
  | coe r => rw [← EReal.coe_mul]; exact_mod_cast mul_self_nonneg r
theorem sqrt_nonneg' {x : EReal} (h : 0 ≤ x) : 0 ≤ Ideal.sqrt x := by
  induction x using EReal.rec with
  | bot => simp at h
  | top => rw [Ideal.sqrt_top]; exact le_top
  | coe r =>
    have hr : 0 ≤ r := by exact_mod_cast h
    rw [Ideal.sqrt_coe, if_neg (not_lt.mpr hr)]
    exact_mod_cast Real.sqrt_nonneg r
theorem sum_top {n : ℕ} (f : Fin n → EReal) (h : ∀ x, 0 ≤ f x) (a : Fin n) (ha : f a = ⊤) : ∑ x, f x = ⊤ :=
  top_le_iff.mp (ha ▸ Finset.single_le_sum (fun i _ => h i) (Finset.mem_univ a))
theorem sum_real {n : ℕ} (f : Fin n → EReal) (h : ∀ x, ∃ r : ℝ, 0 ≤ r ∧ f x = r) : ∃ r : ℝ, 0 ≤ r ∧ ∑ x, f x = r := by
  choose φ h0 h1 using h
  refine ⟨∑ x, φ x, Finset.sum_nonneg fun x _ => h0 x, ?_⟩
  simp only [h1]
  induction (Finset.univ : Finset (Fin n)) using Finset.induction_on with
  | empty => simp
  | insert a s ha ih => rw [Finset.sum_insert ha, Finset.sum_insert ha, EReal.coe_add, ih]

/-- The identity for a real hidden value and a real response that is not negative. -/
theorem grn_real (η ρ : ℝ) (hρ : 0 ≤ ρ) (g : EReal) : (η : EReal) * (g * (ρ : EReal) + 1) = g * ((η : EReal) * (ρ : EReal)) + (η : EReal) := by
  induction g using EReal.rec with
  | coe γ => norm_cast; ring
  | top =>
    rcases hρ.eq_or_lt with rfl | hp
    · simp
    · rcases lt_trichotomy η 0 with hn | rfl | hη
      · rw [EReal.top_mul_coe_of_pos hp, ← EReal.coe_mul, EReal.top_mul_coe_of_neg (mul_neg_of_neg_of_pos hn hp), EReal.top_add_of_ne_bot (by rw [← EReal.coe_one]; exact EReal.coe_ne_bot 1), EReal.coe_mul_top_of_neg hn, EReal.bot_add]
      · simp
      · rw [EReal.top_mul_coe_of_pos hp, ← EReal.coe_mul, EReal.top_mul_coe_of_pos (mul_pos hη hp), EReal.top_add_of_ne_bot (by rw [← EReal.coe_one]; exact EReal.coe_ne_bot 1), EReal.coe_mul_top_of_pos hη, EReal.top_add_of_ne_bot (by simp)]
  | bot =>
    rcases hρ.eq_or_lt with rfl | hp
    · simp
    · rcases lt_trichotomy η 0 with hn | rfl | hη
      · rw [EReal.bot_mul_coe_of_pos hp, ← EReal.coe_mul, EReal.bot_mul_coe_of_neg (mul_neg_of_neg_of_pos hn hp), EReal.bot_add, EReal.coe_mul_bot_of_neg hn, EReal.top_add_of_ne_bot (by simp)]
      · simp
      · rw [EReal.bot_mul_coe_of_pos hp, ← EReal.coe_mul, EReal.bot_mul_coe_of_pos (mul_pos hη hp), EReal.bot_add, EReal.coe_mul_bot_of_pos hη, EReal.bot_add]

theorem sqF_nonneg (h : Fin 256 → Fin 8192 → EReal) (i : Fin 2) (k : Fin 8192) : 0 ≤ sqF h i k := Finset.sum_nonneg fun _ _ => sq_nonneg' _

/-- Where an image holds an infinite hidden value, every response is nought. -/
theorem resp_inf (h : Fin 256 → Fin 8192 → EReal) (i : Fin 2) (x : Fin 128) (k0 : Fin 8192)
    (hi : h ⟨i.val * 128 + x.val, by omega⟩ k0 = ⊤ ∨ h ⟨i.val * 128 + x.val, by omega⟩ k0 = ⊥) (k : Fin 8192) : respF h i k = 0 := by
  have e1 : sqF h i k0 = ⊤ := sum_top _ (fun _ => sq_nonneg' _) x (by rcases hi with e | e <;> simp [e])
  have e2 : ∑ x, Ideal.sqrt (sqF h i x) = ⊤ := sum_top _ (fun x => sqrt_nonneg' (sqF_nonneg h i x)) k0 (by rw [e1]; rfl)
  obtain ⟨ε, hε, eε⟩ := ceps
  have e3 : Ideal.div (∑ x, Ideal.sqrt (sqF h i x)) (Ideal.ofBits FTy.f32 1174405120#32) = ⊤ := by
    rw [e2, c8192, Ideal.div_coe (by norm_num)]
    exact EReal.top_mul_coe_of_pos (by norm_num)
  unfold respF
  rw [e3, eε, EReal.top_add_of_ne_bot (by simp)]
  simp [Ideal.div]

/-- Where every hidden value of an image is finite, every response is real and not negative. -/
theorem resp_real (h : Fin 256 → Fin 8192 → EReal) (i : Fin 2)
    (hr : ∀ (x : Fin 128) k, ∃ η : ℝ, h ⟨i.val * 128 + x.val, by omega⟩ k = η) (k : Fin 8192) : ∃ ρ : ℝ, 0 ≤ ρ ∧ respF h i k = ρ := by
  have hs : ∀ k, ∃ r : ℝ, 0 ≤ r ∧ sqF h i k = r := fun k => sum_real _ fun x => by
    obtain ⟨η, e⟩ := hr x k
    exact ⟨η * η, mul_self_nonneg η, by rw [e, EReal.coe_mul]⟩
  have hq : ∀ k, ∃ r : ℝ, 0 ≤ r ∧ Ideal.sqrt (sqF h i k) = r := fun k => by
    obtain ⟨r, h0, e⟩ := hs k
    exact ⟨Real.sqrt r, Real.sqrt_nonneg r, by rw [e, Ideal.sqrt_coe, if_neg (not_lt.mpr h0)]⟩
  obtain ⟨t, ht, et⟩ := sum_real _ hq
  obtain ⟨ε, hε, eε⟩ := ceps
  obtain ⟨r, h0, er⟩ := hq k
  refine ⟨r * (1 / (t * (1 / 8192) + ε)), by positivity, ?_⟩
  unfold respF
  rw [et, er, eε, c8192, Ideal.div_coe (by norm_num), ← EReal.coe_mul, ← EReal.coe_add, Ideal.div_coe (by positivity), ← EReal.coe_mul]

theorem grn_eq (h : Fin 256 → Fin 8192 → EReal) (g b : Fin 8192 → EReal) (r : Fin 256) (k : Fin 8192) : grnK h g b r k = grnR h g b r k := by
  unfold grnK grnR
  by_cases hi : ∃ (x : Fin 128) (k0 : Fin 8192), h ⟨(img r).val * 128 + x.val, by have := (img r).isLt; omega⟩ k0 = ⊤ ∨ h ⟨(img r).val * 128 + x.val, by have := (img r).isLt; omega⟩ k0 = ⊥
  · obtain ⟨x, k0, hi⟩ := hi
    rw [resp_inf h (img r) x k0 hi k]
    simp [add_comm]
  · push Not at hi
    have hr : ∀ (x : Fin 128) k, ∃ η : ℝ, h ⟨(img r).val * 128 + x.val, by have := (img r).isLt; omega⟩ k = η := fun x k =>
      ⟨_, (EReal.coe_toReal (hi x k).1 (hi x k).2).symm⟩
    obtain ⟨ρ, h0, e⟩ := resp_real h (img r) hr k
    obtain ⟨η, eη⟩ := hr ⟨r.val % 128, by omega⟩ k
    have er : (⟨(img r).val * 128 + r.val % 128, by have := (img r).isLt; omega⟩ : Fin 256) = r := Fin.ext (by show r.val / 128 * 128 + r.val % 128 = r.val; omega)
    rw [er] at eη
    rw [e, eη, grn_real η ρ h0]
    exact add_right_comm _ _ _

end Cert.Net

end
-- ==== Proof.KernelIdealHidden.lean ====
module

public import proofs.«01_k».proof.Proof.KernelIdealSteps
public import proofs.«01_k».proof.Proof.Net
public import Idealize.ShloMosaic.Lib.Pipeline.Value
public import Idealize.ShloMosaic.Lib.Pointwise

@[expose] public section

noncomputable section

namespace Cert.KernelIdeal.Read

open Cert.KernelIdeal Cert.KernelIdeal.Gen Cert.KernelIdeal.Body Cert.KernelIdeal.Steps
open Idealize.ShloMosaic Idealize.ShloMosaic.TcCoe

/-! The body's values over the extended reals, up to the hidden values and their sums of squares. -/

/-- An array as a function of its two coordinates. -/
abbrev at2 {n k : ℕ} {e : EltTy} (X : (⟨2, ![n, k]⟩ : Shape).Idx → Elt Ideal e) (r : Fin n) (x : Fin k) : Elt Ideal e := X (ix2 r x)
/-- An array of one row as a function of its column. -/
abbrev at1 {k : ℕ} {e : EltTy} (X : (⟨2, ![1, k]⟩ : Shape).Idx → Elt Ideal e) (x : Fin k) : Elt Ideal e := X (ix2 (0 : Fin 1) x)

/-- A load of a box of a buffer that one transfer filled whole. -/
theorem load_whole (b : Ref sig .tc) (f a : b.ty.Contents (Elt Ideal)) (r : Rect b.ty.shape) :
    View.readAt (Elt Ideal) (Memref.whole b).view r.toLoadRect (View.write (Elt Ideal) (Memref.whole b).view f a Finset.univ) = fun x => a (r.emb x) := by
  have h := View.write_whole_univ (Val := Elt Ideal) b f a
  show View.readAt (Elt Ideal) (View.whole b) r.toLoadRect (View.write (Elt Ideal) (View.whole b) f a Finset.univ) = _
  rw [h]; rfl

/-- Pieces stored one after another, each a part of one function, leave that function where they reach. -/
theorem canon_rec {s : Shape} {e : EltTy} (L : ℕ → List (View.Piece (Elt Ideal) s e)) (p : ℕ → View.Piece (Elt Ideal) s e) (hL : ∀ n, L (n + 1) = p n :: L n)
    (G : s.Idx → Elt Ideal e) (N : ℕ) (hG : ∀ n < N, ∀ x : (p n).1.shape.Idx, (p n).2 x = G ((p n).1.emb x)) (y : s.Idx)
    (h : ∃ n < N, y ∈ (p n).1.set) : View.canon (L N) y = G y := by
  induction N with
  | zero => obtain ⟨n, hn, -⟩ := h; omega
  | succ N ih =>
    rw [hL]
    by_cases hy : y ∈ (p N).1.set
    · obtain ⟨x, hx⟩ := (p N).1.exists_idx_of_mem hy
      subst hx
      exact (View.canon_cons_emb (p N).1 (p N).2 (L N) x).trans (hG N (by omega) x)
    · rw [View.canon_cons_of_not_mem _ _ hy]
      obtain ⟨n, hn, hm⟩ := h
      refine ih (fun n hn => hG n (by omega)) ⟨n, ?_, hm⟩
      rcases Nat.lt_succ_iff_lt_or_eq.mp hn with h | rfl
      · exact h
      · exact absurd hm hy

variable (a0 : Vec Ideal S16x16x2048 .bf16) (a1 : Vec Ideal S256x2048 .f32) (a2 a3 : Vec Ideal S1x2048 .f32) (a4 : Vec Ideal S2048x8192 .fp8e4m3)
  (a5 a6 a7 a8 : Vec Ideal S1x8192 .f32) (a9 : Vec Ideal S8192x2048 .fp8e4m3) (a10 a11 : Vec Ideal S1x2048 .f32)
variable (f0 : Vec Ideal S16x16x2048 .bf16) (f1 : Vec Ideal S256x2048 .f32) (f2 f3 : Vec Ideal S1x2048 .f32) (f4 : Vec Ideal S16x2048x512 .fp8e4m3)
  (f5 f6 f7 f8 : Vec Ideal S1x8192 .f32) (f10 f11 : Vec Ideal S1x2048 .f32)

/-! ## The normalisation and the first codes -/

theorem exp_of (v e : FVec Ideal S32x1 .f32) (r : Fin 32) (h : e (ix2 r (0 : Fin 1)) = Ideal.liftRound Int.floor (Ideal.div (Ideal.log (v (ix2 r (0 : Fin 1)))) (Ideal.log (Ideal.ofBits FTy.f32 1073741824#32)))) :
    k0_pay4 v e (FloatOps.ofBits .f32 1065353216#32) (ix2 r (0 : Fin 1)) = Net.expF (v (ix2 r (0 : Fin 1))) := by
  pointwise [k0_pay4]
  rw [h]
  rfl
theorem col_at (T : FVec Ideal S32 .f32) (r : Fin 32) : mulf (shapeCast S32x1 T shapeCasts_S32_S32x1) (broadcast S32x1 (Scalar.ofBits .f32 0x3B124925#32)) (ix2 r (0 : Fin 1))
    = T (ix1 r) * Ideal.ofBits FTy.f32 991054117#32 := by
  pointwise []
theorem max_at (Z : FVec Ideal S32x2048 .f32) (r : Fin 32) : multiReduction .maximumf [1] S32 (absf Z) 0xFF800000#32 reduces_S32x2048_S32 (.inl rfl) rfl (ix1 r) = Net.amaxF fun k => Z (ix2 r k) := by
  pointwise []
  rfl
theorem z_at (y : Vec Ideal S32x2048 .f32) (g b : Vec Ideal S1x2048 .f32) (r : Fin 32) (k : Fin 2048) : k0_pay1 y g b (ix2 r k) = Net.zF (at2 y r) (at1 g) (at1 b) k := by
  pointwise [k0_pay1]
  rfl
theorem t_at (y : Vec Ideal S32x2048 .f32) (g b : Vec Ideal S1x2048 .f32) (r : Fin 32) : k0_pay2 y g b (ix2 r (0 : Fin 1)) = Net.amaxF (Net.zF (at2 y r) (at1 g) (at1 b)) * Ideal.ofBits FTy.f32 991054117#32 := by
  refine (col_at (multiReduction .maximumf [1] S32 (absf (k0_pay1 y g b)) 0xFF800000#32 reduces_S32x2048_S32 (.inl rfl) rfl) r).trans ?_
  rw [max_at]
  simp only [z_at]
theorem l_at (v : FVec Ideal S32x1 .f32) (r : Fin 32) : floor (divf (log v) (log (broadcast S32x1 (Scalar.ofBits .f32 0x40000000#32 : Ideal .f32)))) (ix2 r (0 : Fin 1)) = Ideal.liftRound Int.floor (Ideal.div (Ideal.log (v (ix2 r (0 : Fin 1)))) (Ideal.log (Ideal.ofBits FTy.f32 1073741824#32))) := by
  pointwise []
theorem e_at (y : Vec Ideal S32x2048 .f32) (g b : Vec Ideal S1x2048 .f32) (r : Fin 32) :
    k0_pay4 (k0_pay2 y g b) (k0_pay3 y g b) (FloatOps.ofBits .f32 1065353216#32) (ix2 r (0 : Fin 1)) = Net.rowE (Net.zF (at2 y r) (at1 g) (at1 b)) := by
  refine (exp_of _ _ r (l_at (k0_pay2 y g b) r)).trans ?_
  rw [t_at]
  rfl
theorem code_of (z : FVec Ideal S32x2048 .f32) (v e : FVec Ideal S32x1 .f32) (c : Ideal .f32) (r : Fin 32) (k : Fin 2048) :
    k0_pay5 z v e c (ix2 r k) = Net.codeF (z (ix2 r k)) (Net.invF (k0_pay4 v e c (ix2 r (0 : Fin 1)))) := by
  pointwise [k0_pay5]
  rfl
theorem scale_of (v e : FVec Ideal S32x1 .f32) (c : Ideal .f32) (r : Fin 32) (k : Fin 128) :
    k0_pay6 v e c (ix2 r k) = Net.scF (k0_pay4 v e c (ix2 r (0 : Fin 1))) := by
  pointwise [k0_pay6]
  rfl
theorem lnQ_at (y : Vec Ideal S32x2048 .f32) (g b : Vec Ideal S1x2048 .f32) (r : Fin 32) (k : Fin 2048) :
    lnQ y g b (ix2 r k) = Net.codeF (Net.zF (at2 y r) (at1 g) (at1 b) k) (Net.invF (Net.rowE (Net.zF (at2 y r) (at1 g) (at1 b)))) := by
  refine (code_of _ _ _ _ r k).trans ?_
  rw [z_at, e_at]
theorem lnS_at (y : Vec Ideal S32x2048 .f32) (g b : Vec Ideal S1x2048 .f32) (r : Fin 32) (k : Fin 128) :
    lnS y g b (ix2 r k) = Net.scF (Net.rowE (Net.zF (at2 y r) (at1 g) (at1 b))) := by
  refine (scale_of _ _ _ r k).trans ?_
  rw [e_at]
theorem v201_eq : bodyRun.sl.v201 (F := Ideal) a2 f2 = a2 := by
  unfold bodyRun.sl.v201; rw [load_whole]; exact funext fun x => congrArg a2 (by idx_ext)
theorem v204_eq : bodyRun.sl.v204 (F := Ideal) a3 f3 = a3 := by
  unfold bodyRun.sl.v204; rw [load_whole]; exact funext fun x => congrArg a3 (by idx_ext)
theorem yB_at (b : ℕ) (r : Fin 32) (k : Fin 2048) : yB (F := Ideal) a1 f1 b (ix2 r k) = a1 (ix2 (⟨32 * (b % 8) + r.val, by omega⟩ : Fin 256) k) := by
  unfold yB; rw [load_whole]; exact congrArg a1 (by idx_ext)
/-- The first codes. -/
def q1V : Vec Ideal S256x2048 .fp8e4m3 := fun i => Net.q1 (at2 a1) (at1 a2) (at1 a3) (i 0 : Fin 256) (i 1 : Fin 2048)
theorem q1_canon (y : S256x2048.Idx) : View.canon (q1L (F := Ideal) a1 a2 a3 f1 f2 f3 8) y = q1V a1 a2 a3 y := by
  refine canon_rec (q1L (F := Ideal) a1 a2 a3 f1 f2 f3) (fun n => ⟨blkR n, lnQ (yB a1 f1 n) (bodyRun.sl.v201 a2 f2) (bodyRun.sl.v204 a3 f3)⟩) (fun _ => rfl) (q1V a1 a2 a3) 8 ?_ y ?_
  · intro n hn x
    obtain ⟨r, k, rfl⟩ : ∃ (r : Fin 32) (k : Fin 2048), x = ix2 r k := ⟨x 0, x 1, by idx_ext⟩
    refine (lnQ_at _ _ _ r k).trans ?_
    have e : (blkR n).emb (ix2 r k) = ix2 (⟨32 * (n % 8) + r.val, by omega⟩ : Fin 256) k := by idx_ext
    have e1 : at2 (yB (F := Ideal) a1 f1 n) r = at2 a1 (⟨32 * (n % 8) + r.val, by omega⟩ : Fin 256) := funext fun k => yB_at a1 f1 n r k
    rw [e1, v201_eq, v204_eq]
    exact (congrArg (q1V a1 a2 a3) e).symm
  · obtain ⟨r, k, rfl⟩ : ∃ (r : Fin 256) (k : Fin 2048), y = ix2 r k := ⟨y 0, y 1, by idx_ext⟩
    refine ⟨r.val / 32, by omega, ?_⟩
    show _ ∈ (blkR (r.val / 32)).set
    rw [Rect.mem_set_unit]
    refine Fin.forall_fin_two.mpr ⟨⟨?_, ?_⟩, ⟨?_, ?_⟩⟩
    · show 32 * (r.val / 32 % 8) ≤ r.val; omega
    · show r.val < 32 * (r.val / 32 % 8) + 32; omega
    · show 0 ≤ k.val; omega
    · show k.val < 0 + 2048; omega
/-- The first scales, the same in every lane. -/
def s1R : Vec Ideal S256x128 .f32 := fun i => Net.s1 (at2 a1) (at1 a2) (at1 a3) (i 0 : Fin 256)
theorem s1_canon (y : S256x128.Idx) : View.canon (s1L (F := Ideal) a1 a2 a3 f1 f2 f3 8) y = s1R a1 a2 a3 y := by
  refine canon_rec (s1L (F := Ideal) a1 a2 a3 f1 f2 f3) (fun n => ⟨colR n, lnS (yB a1 f1 n) (bodyRun.sl.v201 a2 f2) (bodyRun.sl.v204 a3 f3)⟩) (fun _ => rfl) (s1R a1 a2 a3) 8 ?_ y ?_
  · intro n hn x
    obtain ⟨r, k, rfl⟩ : ∃ (r : Fin 32) (k : Fin 128), x = ix2 r k := ⟨x 0, x 1, by idx_ext⟩
    refine (lnS_at _ _ _ r k).trans ?_
    have e : (colR n).emb (ix2 r k) = ix2 (⟨32 * (n % 8) + r.val, by omega⟩ : Fin 256) k := by idx_ext
    have e1 : at2 (yB (F := Ideal) a1 f1 n) r = at2 a1 (⟨32 * (n % 8) + r.val, by omega⟩ : Fin 256) := funext fun k => yB_at a1 f1 n r k
    rw [e1, v201_eq, v204_eq]
    exact (congrArg (s1R a1 a2 a3) e).symm
  · obtain ⟨r, k, rfl⟩ : ∃ (r : Fin 256) (k : Fin 128), y = ix2 r k := ⟨y 0, y 1, by idx_ext⟩
    refine ⟨r.val / 32, by omega, ?_⟩
    show _ ∈ (colR (r.val / 32)).set
    rw [Rect.mem_set_unit]
    refine Fin.forall_fin_two.mpr ⟨⟨?_, ?_⟩, ⟨?_, ?_⟩⟩
    · show 32 * (r.val / 32 % 8) ≤ r.val; omega
    · show r.val < 32 * (r.val / 32 % 8) + 32; omega
    · show 0 ≤ k.val; omega
    · show k.val < 0 + 128; omega
theorem v693_at (r : Fin 256) (k : Fin 2048) : bodyRun.sl.v693 (F := Ideal) a1 a2 a3 f1 f2 f3 (ix2 r k) = Net.q1 (at2 a1) (at1 a2) (at1 a3) r k := by
  have key : ∀ z, View.canon (bodyRun.sl.HS13_8 (F := Ideal) a1 a2 a3 f1 f2 f3) z = q1V a1 a2 a3 z := fun z => by rw [q1L_eq]; exact q1_canon a1 a2 a3 f1 f2 f3 z
  have e : bodyRun.sl.v693 (F := Ideal) a1 a2 a3 f1 f2 f3 = fun j => View.canon (bodyRun.sl.HS13_8 (F := Ideal) a1 a2 a3 f1 f2 f3) j := by
    unfold bodyRun.sl.v693
    generalize bodyRun.sl.HS13_8 (F := Ideal) a1 a2 a3 f1 f2 f3 = L
    rw [View.readCov_eq_canon']
    exact funext fun j => congrArg (View.canon L) (by idx_ext)
  rw [e]
  exact key (ix2 r k)
theorem v697_at (r : Fin 256) : bodyRun.sl.v697 (F := Ideal) a1 a2 a3 f1 f2 f3 (ix2 r (0 : Fin 1)) = Net.s1 (at2 a1) (at1 a2) (at1 a3) r := by
  have key : ∀ z, View.canon (bodyRun.sl.HS15_8 (F := Ideal) a1 a2 a3 f1 f2 f3) z = s1R a1 a2 a3 z := fun z => by rw [s1L_eq]; exact s1_canon a1 a2 a3 f1 f2 f3 z
  have e : bodyRun.sl.v697 (F := Ideal) a1 a2 a3 f1 f2 f3 (ix2 r (0 : Fin 1)) = View.canon (bodyRun.sl.HS15_8 (F := Ideal) a1 a2 a3 f1 f2 f3) (ix2 r (0 : Fin 128)) := by
    unfold bodyRun.sl.v697
    generalize bodyRun.sl.HS15_8 (F := Ideal) a1 a2 a3 f1 f2 f3 = L
    rw [View.readCov_eq_canon']
    exact congrArg (View.canon L) (by idx_ext)
  rw [e]
  exact key (ix2 r (0 : Fin 128))

/-! ## The first product -/

theorem b5C_at (j : ℕ) (k : Fin 512) : b5C (F := Ideal) a5 f5 j (ix2 (0 : Fin 1) k) = a5 (ix2 (0 : Fin 1) (⟨512 * (j % 16) + k.val, by omega⟩ : Fin 8192)) := by
  unfold b5C; rw [load_whole]; exact congrArg a5 (by idx_ext)
theorem b6C_at (j : ℕ) (k : Fin 512) : b6C (F := Ideal) a6 f6 j (ix2 (0 : Fin 1) k) = a6 (ix2 (0 : Fin 1) (⟨512 * (j % 16) + k.val, by omega⟩ : Fin 8192)) := by
  unfold b6C; rw [load_whole]; exact congrArg a6 (by idx_ext)
theorem w1sq (x : Fin 2048) (k : Fin 512) : shapeCast S2048x512 (fun i : S1x2048x512.Idx => i) shapeCasts_S1x2048x512_S2048x512 (ix2 x k) = ix3 (0 : Fin 1) x k := by
  pointwise []
theorem w1emb (n : ℕ) (x : Fin 2048) (k : Fin 512) :
    (((Memref.whole cc0_scratch4).slice (slW n) (fun _ => rfl)).squeeze S2048x512 squeezes_S1x2048x512_S2048x512).view.emb (ix2 x k) = ix3 (⟨n % 16, by omega⟩ : Fin 16) x k := by
  show (slW n).emb (shapeCast S2048x512 (fun i : S1x2048x512.Idx => i) shapeCasts_S1x2048x512_S2048x512 (ix2 x k)) = _
  rw [w1sq]
  idx_ext
theorem w1B_at (N : ℕ) (hN : N ≤ 16) (j : Fin 16) (hj : j.val < N) (x : Fin 2048) (k : Fin 512) :
    w1B (F := Ideal) a4 f4 N (ix3 j x k) = a4 (ix2 x (⟨512 * j.val + k.val, by omega⟩ : Fin 8192)) := by
  induction N with
  | zero => omega
  | succ N ih =>
    unfold w1B
    by_cases h : j.val = N
    · have e := w1emb N x k
      have e' : ix3 (⟨N % 16, by omega⟩ : Fin 16) x k = ix3 j x k := by
        have : (⟨N % 16, by omega⟩ : Fin 16) = j := Fin.ext (by show N % 16 = j.val; omega)
        rw [this]
      rw [← e', ← e]
      refine (View.write_emb_of_mem _ _ (Finset.mem_univ _)).trans ?_
      subst h
      have hj' : j.val % 16 = j.val := by omega
      have e3 : (chW j.val).emb (ix2 x k) = ix2 x (⟨512 * j.val + k.val, by omega⟩ : Fin 8192) := by idx_ext
      exact congrArg a4 e3
    · rw [View.write_of_not_mem]
      · exact ih (by omega) (by omega)
      · intro hm
        obtain ⟨z, -, hz⟩ := Finset.mem_map.mp hm
        obtain ⟨p, q, rfl⟩ : ∃ (p : Fin 2048) (q : Fin 512), z = ix2 p q := ⟨z 0, z 1, by idx_ext⟩
        rw [w1emb] at hz
        have := congrArg (fun i : S16x2048x512.Idx => (i 0 : Fin 16).val) hz
        have h2 : N % 16 = j.val := this
        omega
theorem w1C_at (j : ℕ) (x : Fin 2048) (k : Fin 512) : w1C (F := Ideal) a4 f4 j (ix3 (0 : Fin 1) x k) = a4 (ix2 x (⟨512 * (j % 16) + k.val, by omega⟩ : Fin 8192)) := by
  have e : w1C (F := Ideal) a4 f4 j (ix3 (0 : Fin 1) x k) = w1B (F := Ideal) a4 f4 16 (ix3 (⟨j % 16, by omega⟩ : Fin 16) x k) := congrArg (w1B (F := Ideal) a4 f4 16) (by idx_ext)
  rw [e, w1B_at a4 f4 16 le_rfl ⟨j % 16, by omega⟩ (by show j % 16 < 16; omega) x k]
theorem hidC_at (q : Vec Ideal S256x2048 .fp8e4m3) (w : Vec Ideal S1x2048x512 .fp8e4m3) (s : Vec Ideal S256x1 .f32) (u v : Vec Ideal S1x512 .f32) (r : Fin 256) (k : Fin 512) :
    hidC q w s u v (ix2 r k) = Net.geluF ((∑ x, q (ix2 r x) * w (ix3 (0 : Fin 1) x k)) * s (ix2 r (0 : Fin 1)) * u (ix2 (0 : Fin 1) k) + v (ix2 (0 : Fin 1) k)) := by
  pointwise [hidC, k0_pay60, k0_pay61, k0_pay62, k0_pay63]
  rfl
theorem sqC_at (q : Vec Ideal S256x2048 .fp8e4m3) (w : Vec Ideal S1x2048x512 .fp8e4m3) (s : Vec Ideal S256x1 .f32) (u v : Vec Ideal S1x512 .f32) (i : Fin 2) (k : Fin 512) :
    sqC q w s u v (ix2 i k) = ∑ x : Fin 128, hidC q w s u v (ix2 (⟨i.val * 128 + x.val, by omega⟩ : Fin 256) k) * hidC q w s u v (ix2 (⟨i.val * 128 + x.val, by omega⟩ : Fin 256) k) := by
  have h : ∀ A B : FVec Ideal S256x512 .f32, ∀ r k, k0_pay63 A B (ix2 r k) = k0_pay62 A B (ix2 r k) := fun A B r k => by pointwise [k0_pay63]
  have h2 : ∀ A B : FVec Ideal S256x512 .f32, k0_pay64 A B (ix2 i k) = ∑ x : Fin 128, k0_pay62 A B (ix2 (⟨i.val * 128 + x.val, by omega⟩ : Fin 256) k) * k0_pay62 A B (ix2 (⟨i.val * 128 + x.val, by omega⟩ : Fin 256) k) := fun A B => by
    unfold k0_pay64
    generalize k0_pay62 A B = Z
    pointwise []
  unfold sqC hidC
  simp only [h]
  exact h2 _ _
/-- The hidden values. -/
abbrev hidN : Fin 256 → Fin 8192 → EReal := Net.hid (at2 a1) (at1 a2) (at1 a3) (at2 a4) (at1 a5) (at1 a6)
theorem hid_step (n : ℕ) (r : Fin 256) (k : Fin 512) :
    hidC (bodyRun.sl.v693 (F := Ideal) a1 a2 a3 f1 f2 f3) (w1C a4 f4 n) (bodyRun.sl.v697 a1 a2 a3 f1 f2 f3) (b5C a5 f5 n) (b6C a6 f6 n) (ix2 r k)
      = hidN a1 a2 a3 a4 a5 a6 r ⟨512 * (n % 16) + k.val, by omega⟩ := by
  rw [hidC_at, v697_at, b5C_at, b6C_at]
  simp only [v693_at, w1C_at]
  rfl
def hidV : Vec Ideal S256x8192 .f32 := fun i => hidN a1 a2 a3 a4 a5 a6 (i 0 : Fin 256) (i 1 : Fin 8192)
theorem hid_canon (y : S256x8192.Idx) : View.canon (bodyRun.sl.HS12_16 (F := Ideal) a1 a2 a3 a4 a5 a6 f1 f2 f3 f4 f5 f6) y = hidV a1 a2 a3 a4 a5 a6 y := by
  rw [hL_eq]
  refine canon_rec (hL (F := Ideal) a1 a2 a3 a4 a5 a6 f1 f2 f3 f4 f5 f6) (fun n => ⟨chR n, hidC (bodyRun.sl.v693 a1 a2 a3 f1 f2 f3) (w1C a4 f4 n) (bodyRun.sl.v697 a1 a2 a3 f1 f2 f3) (b5C a5 f5 n) (b6C a6 f6 n)⟩) (fun _ => rfl) _ 16 ?_ y ?_
  · intro n hn x
    obtain ⟨r, k, rfl⟩ : ∃ (r : Fin 256) (k : Fin 512), x = ix2 r k := ⟨x 0, x 1, by idx_ext⟩
    refine (hid_step a1 a2 a3 a4 a5 a6 f1 f2 f3 f4 f5 f6 n r k).trans ?_
    have e : (chR n).emb (ix2 r k) = ix2 r (⟨512 * (n % 16) + k.val, by omega⟩ : Fin 8192) := by idx_ext
    exact (congrArg (hidV a1 a2 a3 a4 a5 a6) e).symm
  · obtain ⟨r, k, rfl⟩ : ∃ (r : Fin 256) (k : Fin 8192), y = ix2 r k := ⟨y 0, y 1, by idx_ext⟩
    refine ⟨k.val / 512, by omega, ?_⟩
    show _ ∈ (chR (k.val / 512)).set
    rw [Rect.mem_set_unit]
    refine Fin.forall_fin_two.mpr ⟨⟨?_, ?_⟩, ⟨?_, ?_⟩⟩
    · show 0 ≤ r.val; omega
    · show r.val < 0 + 256; omega
    · show 512 * (k.val / 512 % 16) ≤ k.val; omega
    · show k.val < 512 * (k.val / 512 % 16) + 512; omega
def sqV : Vec Ideal S2x8192 .f32 := fun i => Net.sqF (hidN a1 a2 a3 a4 a5 a6) (i 0 : Fin 2) (i 1 : Fin 8192)
theorem sq_canon (y : S2x8192.Idx) : View.canon (bodyRun.sl.HS17_16 (F := Ideal) a1 a2 a3 a4 a5 a6 f1 f2 f3 f4 f5 f6) y = sqV a1 a2 a3 a4 a5 a6 y := by
  rw [nL_eq]
  refine canon_rec (nL (F := Ideal) a1 a2 a3 a4 a5 a6 f1 f2 f3 f4 f5 f6) (fun n => ⟨chN n, sqC (bodyRun.sl.v693 a1 a2 a3 f1 f2 f3) (w1C a4 f4 n) (bodyRun.sl.v697 a1 a2 a3 f1 f2 f3) (b5C a5 f5 n) (b6C a6 f6 n)⟩) (fun _ => rfl) _ 16 ?_ y ?_
  · intro n hn x
    obtain ⟨r, k, rfl⟩ : ∃ (r : Fin 2) (k : Fin 512), x = ix2 r k := ⟨x 0, x 1, by idx_ext⟩
    refine (sqC_at _ _ _ _ _ r k).trans ?_
    simp only [hid_step]
    have e : (chN n).emb (ix2 r k) = ix2 r (⟨512 * (n % 16) + k.val, by omega⟩ : Fin 8192) := by idx_ext
    exact (congrArg (sqV a1 a2 a3 a4 a5 a6) e).symm
  · obtain ⟨r, k, rfl⟩ : ∃ (r : Fin 2) (k : Fin 8192), y = ix2 r k := ⟨y 0, y 1, by idx_ext⟩
    refine ⟨k.val / 512, by omega, ?_⟩
    show _ ∈ (chN (k.val / 512)).set
    rw [Rect.mem_set_unit]
    refine Fin.forall_fin_two.mpr ⟨⟨?_, ?_⟩, ⟨?_, ?_⟩⟩
    · show 0 ≤ r.val; omega
    · show r.val < 0 + 2; omega
    · show 512 * (k.val / 512 % 16) ≤ k.val; omega
    · show k.val < 512 * (k.val / 512 % 16) + 512; omega

end Cert.KernelIdeal.Read

end
-- ==== Proof.KernelIdealNorm.lean ====
module

public import proofs.«01_k».proof.Proof.KernelIdealHidden

@[expose] public section

noncomputable section

namespace Cert.KernelIdeal.Read

open Cert.KernelIdeal Cert.KernelIdeal.Gen Cert.KernelIdeal.Body Cert.KernelIdeal.Steps
open Idealize.ShloMosaic Idealize.ShloMosaic.TcCoe

/-! The response normalisation, block after block, and the second scales. -/

variable (a0 : Vec Ideal S16x16x2048 .bf16) (a1 : Vec Ideal S256x2048 .f32) (a2 a3 : Vec Ideal S1x2048 .f32) (a4 : Vec Ideal S2048x8192 .fp8e4m3)
  (a5 a6 a7 a8 : Vec Ideal S1x8192 .f32) (a9 : Vec Ideal S8192x2048 .fp8e4m3) (a10 a11 : Vec Ideal S1x2048 .f32)
variable (f0 : Vec Ideal S16x16x2048 .bf16) (f1 : Vec Ideal S256x2048 .f32) (f2 f3 : Vec Ideal S1x2048 .f32) (f4 : Vec Ideal S16x2048x512 .fp8e4m3)
  (f5 f6 f7 f8 : Vec Ideal S1x8192 .f32) (f10 f11 : Vec Ideal S1x2048 .f32)

/-- The newest piece decides on its own rectangle. -/
theorem canon_head {s : Shape} {τ : EltTy} (p : View.Piece (Elt Ideal) s τ) (L : List (View.Piece (Elt Ideal) s τ)) (x : p.1.shape.Idx) (y : s.Idx) (h : p.1.emb x = y) :
    View.canon (p :: L) y = p.2 x := by
  rw [← h]; exact View.canon_cons_emb p.1 p.2 L x

/-- Outside its rectangle the newest piece changes nothing. -/
theorem canon_skip {s : Shape} {τ : EltTy} (R : Rect s) (w : Vec Ideal R.shape τ) (L : List (View.Piece (Elt Ideal) s τ)) (y : s.Idx) (h : y ∉ R.set) :
    View.canon (⟨R, w⟩ :: L) y = View.canon L y := View.canon_cons_of_not_mem ⟨R, w⟩ L h

/-! ## The factors -/

theorem pay123_at (A : Vec Ideal S2x8192 .f32) (B : Vec Ideal S1x8192 .f32) (i : Fin 2) (k : Fin 8192) : k0_pay123 A B (ix2 i k)
    = B (ix2 (0 : Fin 1) k) * Ideal.div (Ideal.sqrt (A (ix2 i k))) (Ideal.div (∑ x, Ideal.sqrt (A (ix2 i x))) (Ideal.ofBits FTy.f32 1174405120#32) + Ideal.ofBits FTy.f32 897988541#32) + 1 := by
  pointwise [k0_pay123]
theorem v1258_at (k : Fin 8192) : bodyRun.sl.v1258 (F := Ideal) a7 f7 (ix2 (0 : Fin 1) k) = a7 (ix2 (0 : Fin 1) k) := by
  unfold bodyRun.sl.v1258; rw [load_whole]; exact congrArg a7 (by idx_ext)
theorem v1248_at (i : Fin 2) (k : Fin 8192) : bodyRun.sl.v1248 (F := Ideal) a1 a2 a3 a4 a5 a6 f1 f2 f3 f4 f5 f6 (ix2 i k) = Net.sqF (hidN a1 a2 a3 a4 a5 a6) i k := by
  have e : bodyRun.sl.v1248 (F := Ideal) a1 a2 a3 a4 a5 a6 f1 f2 f3 f4 f5 f6 = fun j => View.canon (bodyRun.sl.HS17_16 (F := Ideal) a1 a2 a3 a4 a5 a6 f1 f2 f3 f4 f5 f6) j := by
    unfold bodyRun.sl.v1248
    generalize bodyRun.sl.HS17_16 (F := Ideal) a1 a2 a3 a4 a5 a6 f1 f2 f3 f4 f5 f6 = L
    rw [View.readCov_eq_canon']
    exact funext fun j => congrArg (View.canon L) (by idx_ext)
  rw [e]
  exact sq_canon a1 a2 a3 a4 a5 a6 f1 f2 f3 f4 f5 f6 (ix2 i k)
/-- The factor of each column of each image. -/
def facN (i : Fin 2) (k : Fin 8192) : EReal := a7 (ix2 (0 : Fin 1) k) * Net.respF (hidN a1 a2 a3 a4 a5 a6) i k + 1
theorem fac_pay (i : Fin 2) (k : Fin 8192) : k0_pay123 (bodyRun.sl.v1248 (F := Ideal) a1 a2 a3 a4 a5 a6 f1 f2 f3 f4 f5 f6) (bodyRun.sl.v1258 a7 f7) (ix2 i k) = facN a1 a2 a3 a4 a5 a6 a7 i k := by
  rw [pay123_at, v1258_at]
  simp only [v1248_at]
  rfl
theorem fac_canon (i : Fin 2) (k : Fin 8192) : View.canon (bodyRun.sl.HS18_1 (F := Ideal) a1 a2 a3 a4 a5 a6 a7 f1 f2 f3 f4 f5 f6 f7) (ix2 i k) = facN a1 a2 a3 a4 a5 a6 a7 i k := by
  unfold bodyRun.sl.HS18_1
  have e : (Rect.unit (s := S2x8192) ![0, 0] S2x8192.size inb_S2x8192_S2x8192_0_0).emb (ix2 i k) = ix2 i k := by idx_ext
  have q := fac_pay a1 a2 a3 a4 a5 a6 a7 f1 f2 f3 f4 f5 f6 f7 i k
  generalize k0_pay123 (bodyRun.sl.v1248 (F := Ideal) a1 a2 a3 a4 a5 a6 f1 f2 f3 f4 f5 f6) (bodyRun.sl.v1258 a7 f7) = P at q ⊢
  exact (canon_head _ _ _ _ e).trans q

/-! ## The normalised values -/

/-- The normalised hidden values. -/
def grnN (r : Fin 256) (k : Fin 8192) : EReal := hidN a1 a2 a3 a4 a5 a6 r k * facN a1 a2 a3 a4 a5 a6 a7 (Net.img r) k + a8 (ix2 (0 : Fin 1) k)
theorem pay125_at (A : Vec Ideal S32x128 .f32) (p q : Vec Ideal S1x128 .f32) (r : Fin 32) (k : Fin 128) : k0_pay125 A p q (ix2 r k) = A (ix2 r k) * p (ix2 (0 : Fin 1) k) + q (ix2 (0 : Fin 1) k) := by
  pointwise [k0_pay125]
theorem tile_at (L : List (View.Piece (Elt Ideal) S256x8192 .f32)) (b c : ℕ) (hb : b < 8) (hc : c < 64) (r : Fin 32) (k : Fin 128) :
    tileV (bodyRun.sl.HS18_1 (F := Ideal) a1 a2 a3 a4 a5 a6 a7 f1 f2 f3 f4 f5 f6 f7) (rowB a8 f8) L b c (ix2 r k)
      = View.canon L (ix2 (⟨32 * b + r.val, by omega⟩ : Fin 256) (⟨128 * c + k.val, by omega⟩ : Fin 8192)) * facN a1 a2 a3 a4 a5 a6 a7 (⟨b / 4, by omega⟩ : Fin 2) (⟨128 * c + k.val, by omega⟩ : Fin 8192)
        + a8 (ix2 (0 : Fin 1) (⟨128 * c + k.val, by omega⟩ : Fin 8192)) := by
  unfold tileV
  rw [pay125_at, View.readCov_eq_canon', View.readCov_eq_canon']
  have hb' : b % 8 = b := by omega
  have hc' : c % 64 = c := by omega
  have e1 : (tileR b c).toLoadRect.idx (ix2 r k) = ix2 (⟨32 * b + r.val, by omega⟩ : Fin 256) (⟨128 * c + k.val, by omega⟩ : Fin 8192) := by
    have : (tileR b c).emb (ix2 r k) = ix2 (⟨32 * b + r.val, by omega⟩ : Fin 256) (⟨128 * c + k.val, by omega⟩ : Fin 8192) := by idx_ext
    exact this
  have e2 : (factR b c).toLoadRect.idx (ix2 (0 : Fin 1) k) = ix2 (⟨b / 4, by omega⟩ : Fin 2) (⟨128 * c + k.val, by omega⟩ : Fin 8192) := by
    have : (factR b c).emb (ix2 (0 : Fin 1) k) = ix2 (⟨b / 4, by omega⟩ : Fin 2) (⟨128 * c + k.val, by omega⟩ : Fin 8192) := by idx_ext
    exact this
  have e3 : View.readAt (Elt Ideal) (Memref.whole cc0_scratch8).view (rowR c).toLoadRect (rowB (F := Ideal) a8 f8) (ix2 (0 : Fin 1) k) = a8 (ix2 (0 : Fin 1) (⟨128 * c + k.val, by omega⟩ : Fin 8192)) := by
    unfold rowB; rw [load_whole]; exact congrArg a8 (by idx_ext)
  beta_reduce
  rw [e1, e2, e3, fac_canon]
theorem mem_tile (b c : ℕ) (hb : b < 8) (hc : c < 64) (r : Fin 256) (k : Fin 8192) : ix2 r k ∈ (tileR b c).set ↔ r.val / 32 = b ∧ k.val / 128 = c := by
  rw [Rect.mem_set_unit]
  refine Fin.forall_fin_two.trans ?_
  show (32 * (b % 8) ≤ r.val ∧ r.val < 32 * (b % 8) + 32) ∧ (128 * (c % 64) ≤ k.val ∧ k.val < 128 * (c % 64) + 128) ↔ _
  omega
/-- The hidden array after `n` column groups of row block `b`. -/
theorem hs_canon (L : List (View.Piece (Elt Ideal) S256x8192 .f32)) (b n : ℕ) (hb : b < 8) (hn : n ≤ 64) (r : Fin 256) (k : Fin 8192) :
    View.canon (hs (bodyRun.sl.HS18_1 (F := Ideal) a1 a2 a3 a4 a5 a6 a7 f1 f2 f3 f4 f5 f6 f7) (rowB a8 f8) L b n) (ix2 r k)
      = if r.val / 32 = b ∧ k.val / 128 < n then View.canon L (ix2 r k) * facN a1 a2 a3 a4 a5 a6 a7 (Net.img r) k + a8 (ix2 (0 : Fin 1) k) else View.canon L (ix2 r k) := by
  induction n with
  | zero => rw [if_neg (by omega)]; rfl
  | succ n ih =>
    have ih := ih (by omega)
    have hm := mem_tile b n hb (by omega) r k
    unfold hs
    by_cases h : r.val / 32 = b ∧ k.val / 128 = n
    · rw [if_pos (by omega)]
      rw [if_neg (by omega)] at ih
      have hb' : b % 8 = b := by omega
      have hc' : n % 64 = n := by omega
      have e : (tileR b n).emb (ix2 (⟨r.val % 32, by omega⟩ : Fin 32) (⟨k.val % 128, by omega⟩ : Fin 128)) = ix2 r k := by
        obtain ⟨h1, h2⟩ := h
        have h3 : 32 * b + r.val % 32 = r.val := by omega
        have h4 : 128 * n + k.val % 128 = k.val := by omega
        clear ih hm
        idx_ext
      refine (canon_head _ _ _ _ e).trans ?_
      rw [shapeCast_self]
      refine (tile_at a1 a2 a3 a4 a5 a6 a7 a8 f1 f2 f3 f4 f5 f6 f7 f8 _ b n hb (by omega) _ _).trans ?_
      have er : (⟨32 * b + (⟨r.val % 32, by omega⟩ : Fin 32).val, by show 32 * b + r.val % 32 < 256; omega⟩ : Fin 256) = r := Fin.ext (by show 32 * b + r.val % 32 = r.val; omega)
      have ek : (⟨128 * n + (⟨k.val % 128, by omega⟩ : Fin 128).val, by show 128 * n + k.val % 128 < 8192; omega⟩ : Fin 8192) = k := Fin.ext (by show 128 * n + k.val % 128 = k.val; omega)
      have ei : (⟨b / 4, by omega⟩ : Fin 2) = Net.img r := Fin.ext (by show b / 4 = r.val / 128; omega)
      rw [er, ek, ei, ih]
    · have hm' : ix2 r k ∉ (tileR b n).set := fun hq => h (hm.mp hq)
      refine (canon_skip _ _ _ _ hm').trans (ih.trans ?_)
      exact if_congr (by omega) rfl rfl
/-- The hidden array before row block `b`. -/
theorem blk_canon (b : ℕ) (hb : b ≤ 8) (r : Fin 256) (k : Fin 8192) :
    View.canon (blk (F := Ideal) a1 a2 a3 a4 a5 a6 a7 a8 f1 f2 f3 f4 f5 f6 f7 f8 b) (ix2 r k)
      = if r.val / 32 < b then grnN a1 a2 a3 a4 a5 a6 a7 a8 r k else hidN a1 a2 a3 a4 a5 a6 r k := by
  induction b with
  | zero => rw [if_neg (by omega)]; exact hid_canon a1 a2 a3 a4 a5 a6 f1 f2 f3 f4 f5 f6 (ix2 r k)
  | succ b ih =>
    have ih := ih (by omega)
    unfold blk
    rw [hs_canon a1 a2 a3 a4 a5 a6 a7 a8 f1 f2 f3 f4 f5 f6 f7 f8 _ b 64 (by omega) le_rfl r k, ih]
    by_cases h : r.val / 32 = b
    · rw [if_pos ⟨h, by omega⟩, if_neg (by omega), if_pos (by omega)]; rfl
    · rw [if_neg (by omega)]; exact if_congr (by omega) rfl rfl
/-- The scaled and shifted values of one column group of one row block. -/
theorem tile_grn (b n : ℕ) (hb : b < 8) (hn : n < 64) (r : Fin 32) (k : Fin 128) :
    tileV (bodyRun.sl.HS18_1 (F := Ideal) a1 a2 a3 a4 a5 a6 a7 f1 f2 f3 f4 f5 f6 f7) (rowB a8 f8)
      (hs (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8 b) b n) b n (ix2 r k)
      = grnN a1 a2 a3 a4 a5 a6 a7 a8 (⟨32 * b + r.val, by omega⟩ : Fin 256) (⟨128 * n + k.val, by omega⟩ : Fin 8192) := by
  rw [tile_at a1 a2 a3 a4 a5 a6 a7 a8 f1 f2 f3 f4 f5 f6 f7 f8 _ b n hb hn r k, hs_canon a1 a2 a3 a4 a5 a6 a7 a8 f1 f2 f3 f4 f5 f6 f7 f8 _ b n hb (by omega), blk_canon a1 a2 a3 a4 a5 a6 a7 a8 f1 f2 f3 f4 f5 f6 f7 f8 b (by omega)]
  rw [if_neg (by show ¬((32 * b + r.val) / 32 = b ∧ (128 * n + k.val) / 128 < n); omega), if_neg (by show ¬((32 * b + r.val) / 32 < b); omega)]
  have ei : (⟨b / 4, by omega⟩ : Fin 2) = Net.img (⟨32 * b + r.val, by omega⟩ : Fin 256) := Fin.ext (by show b / 4 = (32 * b + r.val) / 128; omega)
  rw [ei]
  rfl

/-! ## The greatest magnitudes and the second scales -/

theorem mx_le (b N : ℕ) (hb : b < 8) (hN : N ≤ 64) (r : Fin 32) (l : Fin 128) (c : EReal) :
    mx (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8 b) b N (ix2 r l) ≤ c
      ↔ 0 ≤ c ∧ ∀ n : Fin 64, n.val < N → FloatOps.absf (F := Ideal) (φ := .f32) (grnN a1 a2 a3 a4 a5 a6 a7 a8 (⟨32 * b + r.val, by omega⟩ : Fin 256) (⟨128 * n.val + l.val, by omega⟩ : Fin 8192)) ≤ c := by
  induction N with
  | zero =>
    have e : k0_pay124 (F := Ideal) (ix2 r l) = 0 := by pointwise [k0_pay124]
    unfold mx
    rw [e]
    exact ⟨fun h => ⟨h, fun n hn => absurd hn (by omega)⟩, fun h => h.1⟩
  | succ N ih =>
    have ih := ih (by omega)
    unfold mx
    have e : ∀ A B : FVec Ideal S32x128 .f32, maximumf A (absf B) (ix2 r l) = max (A (ix2 r l)) (FloatOps.absf (F := Ideal) (φ := .f32) (B (ix2 r l))) := fun A B => by pointwise []
    rw [e, max_le_iff, ih, tile_grn a1 a2 a3 a4 a5 a6 a7 a8 f1 f2 f3 f4 f5 f6 f7 f8 b N hb (by omega) r l]
    constructor
    · rintro ⟨⟨h0, h1⟩, h2⟩
      refine ⟨h0, fun n hn => ?_⟩
      rcases Nat.lt_succ_iff_lt_or_eq.mp hn with h | h
      · exact h1 n h
      · subst h; exact h2
    · rintro ⟨h0, h1⟩
      exact ⟨⟨h0, fun n hn => h1 n (by omega)⟩, h1 ⟨N, by omega⟩ (by show N < N + 1; omega)⟩
theorem fold_lanes (m : FVec Ideal S32x128 .f32) (r : Fin 32) : multiReduction .maximumf [1] S32 m 0xFF800000#32 reduces_S32x128_S32 (.inl rfl) rfl (ix1 r)
    = Finset.fold max (Ideal.ofBits FTy.f32 4286578688#32) (fun l => m (ix2 r l)) Finset.univ := by
  pointwise []
theorem absf_nonneg (x : EReal) : 0 ≤ FloatOps.absf (F := Ideal) (φ := .f32) x := by
  show 0 ≤ max x (-x)
  rcases le_total 0 x with h | h
  · exact le_max_of_le_left h
  · exact le_max_of_le_right (by rw [EReal.le_neg, neg_zero]; exact h)
theorem amax_at (b : ℕ) (hb : b < 8) (r : Fin 32) :
    Finset.fold max (Ideal.ofBits FTy.f32 4286578688#32) (fun l => mx (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8 b) b 64 (ix2 r l)) Finset.univ
      = Net.amaxF (grnN a1 a2 a3 a4 a5 a6 a7 a8 (⟨32 * b + r.val, by omega⟩ : Fin 256)) := by
  refine eq_of_forall_ge_iff fun c => ?_
  unfold Net.amaxF
  rw [Finset.fold_max_le, Finset.fold_max_le]
  refine and_congr_right fun _ => ?_
  simp only [mx_le a1 a2 a3 a4 a5 a6 a7 a8 f1 f2 f3 f4 f5 f6 f7 f8 b 64 hb le_rfl]
  constructor
  · intro h k _
    have := (h ⟨k.val % 128, by omega⟩ (Finset.mem_univ _)).2 ⟨k.val / 128, by omega⟩ (by show k.val / 128 < 64; omega)
    have ek : (⟨128 * (⟨k.val / 128, by omega⟩ : Fin 64).val + (⟨k.val % 128, by omega⟩ : Fin 128).val, by show 128 * (k.val / 128) + k.val % 128 < 8192; omega⟩ : Fin 8192) = k :=
      Fin.ext (by show 128 * (k.val / 128) + k.val % 128 = k.val; omega)
    rw [ek] at this
    exact this
  · intro h l _
    exact ⟨(absf_nonneg _).trans (h ⟨0, by omega⟩ (Finset.mem_univ _)), fun n _ => h _ (Finset.mem_univ _)⟩
theorem gE_of (v : FVec Ideal S32x1 .f32) (r : Fin 32) : (select (ori (cmpf .oeq v (broadcast S32x1 (Scalar.ofBits .f32 0x00000000#32 : Ideal .f32)))
      (xori (cmpf .olt (absf v) (broadcast S32x1 (Scalar.ofBits .f32 0x7F800000#32 : Ideal .f32))) (constantI S32x1 1 1#1)))
    (broadcast S32x1 (Scalar.ofBits .f32 0x00000000#32 : Ideal .f32))
    (addf (floor (divf (log v) (log (broadcast S32x1 (Scalar.ofBits .f32 0x40000000#32 : Ideal .f32))))) (broadcast S32x1 (Scalar.ofBits .f32 0x3F800000#32 : Ideal .f32)))) (ix2 r (0 : Fin 1))
    = Net.expF (v (ix2 r (0 : Fin 1))) := by
  pointwise []
  rfl
theorem gE_at (m : FVec Ideal S32x128 .f32) (r : Fin 32) : gE m (ix2 r (0 : Fin 1))
    = Net.expF (Finset.fold max (Ideal.ofBits FTy.f32 4286578688#32) (fun l => m (ix2 r l)) Finset.univ * Ideal.ofBits FTy.f32 991054117#32) := by
  refine (gE_of (mulf (shapeCast S32x1 (multiReduction .maximumf [1] S32 m 0xFF800000#32 reduces_S32x128_S32 (.inl rfl) rfl : FVec Ideal S32 .f32) shapeCasts_S32_S32x1)
    (broadcast S32x1 (Scalar.ofBits .f32 0x3B124925#32 : Ideal .f32))) r).trans ?_
  rw [col_at, fold_lanes]
theorem gW_at (v : FVec Ideal S32x1 .f32) (r : Fin 32) (l : Fin 128) : gW v (ix3 (0 : Fin 1) r l) = v (ix2 r (0 : Fin 1)) := by
  pointwise [gW]
theorem gS_at (m : FVec Ideal S32x128 .f32) (r : Fin 32) (l : Fin 128) : gS m (ix3 (0 : Fin 1) r l) = Net.scF (gE m (ix2 r (0 : Fin 1))) := by
  unfold gS
  rw [gW_at]
  rfl
theorem inv_of (e : FVec Ideal S32x1 .f32) (r : Fin 32) : exp2 (subf (broadcast S32x1 (Scalar.ofBits .f32 0x00000000#32 : Ideal .f32)) e) (ix2 r (0 : Fin 1)) = Net.invF (e (ix2 r (0 : Fin 1))) := by
  pointwise []
  rfl
theorem gI_at (m : FVec Ideal S32x128 .f32) (r : Fin 32) (l : Fin 128) : gI m (ix3 (0 : Fin 1) r l) = Net.invF (gE m (ix2 r (0 : Fin 1))) := by
  unfold gI
  rw [gW_at, inv_of]
/-- The exponents of the second scales. -/
def e2N (r : Fin 256) : EReal := Net.rowE (grnN a1 a2 a3 a4 a5 a6 a7 a8 r)
theorem e2_step (b : ℕ) (hb : b < 8) (r : Fin 32) :
    gE (mx (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8 b) b 64) (ix2 r (0 : Fin 1))
      = e2N a1 a2 a3 a4 a5 a6 a7 a8 (⟨32 * b + r.val, by omega⟩ : Fin 256) := by
  rw [gE_at, amax_at a1 a2 a3 a4 a5 a6 a7 a8 f1 f2 f3 f4 f5 f6 f7 f8 b hb r]
  rfl
/-- The second scales and their inverses, the same in every lane. -/
def scV : Vec Ideal S2x256x128 .f32 := fun i =>
  if (i 0 : Fin 2).val = 0 then Net.scF (e2N a1 a2 a3 a4 a5 a6 a7 a8 (i 1 : Fin 256)) else Net.invF (e2N a1 a2 a3 a4 a5 a6 a7 a8 (i 1 : Fin 256))
theorem mem_sc (i b : ℕ) (hi : i < 2) (hb : b < 8) (h : Fin 2) (r : Fin 256) (l : Fin 128) : ix3 h r l ∈ (scR i b).set ↔ h.val = i ∧ r.val / 32 = b := by
  rw [Rect.mem_set_unit]
  refine Fin.forall_fin_succ.trans ((and_congr_right fun _ => Fin.forall_fin_two).trans ?_)
  have hl := l.isLt
  show (i % 2 ≤ h.val ∧ h.val < i % 2 + 1) ∧ (32 * (b % 8) ≤ r.val ∧ r.val < 32 * (b % 8) + 32) ∧ (0 ≤ l.val ∧ l.val < 0 + 128) ↔ _
  omega
theorem emb_sc (i b : ℕ) (hi : i < 2) (hb : b < 8) (r : Fin 32) (l : Fin 128) : (scR i b).emb (ix3 (0 : Fin 1) r l) = ix3 (⟨i, hi⟩ : Fin 2) (⟨32 * b + r.val, by omega⟩ : Fin 256) l := by
  have h1 : i % 2 = i := by omega
  have h2 : b % 8 = b := by omega
  idx_ext
theorem gS_pay (b : ℕ) (hb : b < 8) (r : Fin 32) (l : Fin 128) :
    gS (mx (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8 b) b 64) (ix3 (0 : Fin 1) r l)
      = scV a1 a2 a3 a4 a5 a6 a7 a8 (ix3 (⟨0, by omega⟩ : Fin 2) (⟨32 * b + r.val, by omega⟩ : Fin 256) l) := by
  rw [gS_at, e2_step a1 a2 a3 a4 a5 a6 a7 a8 f1 f2 f3 f4 f5 f6 f7 f8 b hb]
  rfl
theorem gI_pay (b : ℕ) (hb : b < 8) (r : Fin 32) (l : Fin 128) :
    gI (mx (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8 b) b 64) (ix3 (0 : Fin 1) r l)
      = scV a1 a2 a3 a4 a5 a6 a7 a8 (ix3 (⟨1, by omega⟩ : Fin 2) (⟨32 * b + r.val, by omega⟩ : Fin 256) l) := by
  rw [gI_at, e2_step a1 a2 a3 a4 a5 a6 a7 a8 f1 f2 f3 f4 f5 f6 f7 f8 b hb]
  rfl
/-- Writing the two pieces of each row block in turn leaves the array they are the parts of. -/
theorem two_rec (G : S2x256x128.Idx → EReal) (gs gi : ℕ → Vec Ideal S1x32x128 .f32) (L : ℕ → List (View.Piece (Elt Ideal) S2x256x128 .f32))
    (hL : ∀ n, L (n + 1) = ⟨scR 1 n, gi n⟩ :: ⟨scR 0 n, gs n⟩ :: L n)
    (hs : ∀ (n : ℕ) (hn : n < 8) (r : Fin 32) (l : Fin 128), gs n (ix3 (0 : Fin 1) r l) = G (ix3 (⟨0, by omega⟩ : Fin 2) (⟨32 * n + r.val, by omega⟩ : Fin 256) l))
    (hi : ∀ (n : ℕ) (hn : n < 8) (r : Fin 32) (l : Fin 128), gi n (ix3 (0 : Fin 1) r l) = G (ix3 (⟨1, by omega⟩ : Fin 2) (⟨32 * n + r.val, by omega⟩ : Fin 256) l))
    (N : ℕ) (hN : N ≤ 8) (h : Fin 2) (r : Fin 256) (l : Fin 128) (hr : r.val / 32 < N) : View.canon (L N) (ix3 h r l) = G (ix3 h r l) := by
  induction N with
  | zero => omega
  | succ N ih =>
    rw [hL]
    by_cases hq : r.val / 32 = N
    · have er : (⟨32 * N + (⟨r.val % 32, by omega⟩ : Fin 32).val, by show 32 * N + r.val % 32 < 256; omega⟩ : Fin 256) = r := Fin.ext (by show 32 * N + r.val % 32 = r.val; omega)
      by_cases hh : h.val = 1
      · have e := emb_sc 1 N (by omega) (by omega) ⟨r.val % 32, by omega⟩ l
        have q := hi N (by omega) ⟨r.val % 32, by omega⟩ l
        have eh : (⟨1, by omega⟩ : Fin 2) = h := Fin.ext hh.symm
        rw [er, eh] at e q
        exact (canon_head _ _ _ _ e).trans q
      · have m1 : ix3 h r l ∉ (scR 1 N).set := fun hm => hh ((mem_sc 1 N (by omega) (by omega) h r l).mp hm).1
        refine (canon_skip _ _ _ _ m1).trans ?_
        have e := emb_sc 0 N (by omega) (by omega) ⟨r.val % 32, by omega⟩ l
        have q := hs N (by omega) ⟨r.val % 32, by omega⟩ l
        have eh : (⟨0, by omega⟩ : Fin 2) = h := Fin.ext (by show 0 = h.val; omega)
        rw [er, eh] at e q
        exact (canon_head _ _ _ _ e).trans q
    · have m1 : ix3 h r l ∉ (scR 1 N).set := fun hm => hq ((mem_sc 1 N (by omega) (by omega) h r l).mp hm).2
      have m0 : ix3 h r l ∉ (scR 0 N).set := fun hm => hq ((mem_sc 0 N (by omega) (by omega) h r l).mp hm).2
      exact (canon_skip _ _ _ _ m1).trans ((canon_skip _ _ _ _ m0).trans (ih (by omega) (by omega)))
theorem sL_canon (h : Fin 2) (r : Fin 256) (l : Fin 128) :
    View.canon (sL (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8) 8) (ix3 h r l)
      = scV a1 a2 a3 a4 a5 a6 a7 a8 (ix3 h r l) :=
  two_rec (scV a1 a2 a3 a4 a5 a6 a7 a8) _ _ (sL (bodyRun.sl.HS18_1 (F := Ideal) a1 a2 a3 a4 a5 a6 a7 f1 f2 f3 f4 f5 f6 f7) (rowB a8 f8) (blk a1 a2 a3 a4 a5 a6 a7 a8 f1 f2 f3 f4 f5 f6 f7 f8))
    (fun n => rfl)
    (fun n hn r l => gS_pay a1 a2 a3 a4 a5 a6 a7 a8 f1 f2 f3 f4 f5 f6 f7 f8 n hn r l)
    (fun n hn r l => gI_pay a1 a2 a3 a4 a5 a6 a7 a8 f1 f2 f3 f4 f5 f6 f7 f8 n hn r l) 8 le_rfl h r l (by omega)

end Cert.KernelIdeal.Read

end
-- ==== Proof.KernelIdealRun.lean ====
module

public import proofs.«01_k».proof.Proof.Gen.KernelIdeal.Frame
public import proofs.«01_k».proof.Proof.Gen.KernelIdeal.Skeleton
public import proofs.«01_k».proof.Proof.KernelIdealBody
public import Idealize.ShloMosaic.Lib.Pipeline.KitQuiescent
public import Idealize.ShloMosaic.Lib.Tactic

@[expose] public section

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- Contents of the results' arrays that the body leaves on core `c`, from some contents of its scratch buffers and of
    the results' arrays. -/
def OutOK (c : Dev nD) (w0 : (Ref.ty main_v9_0).Contents (Elt F)) (w1 : (Ref.ty main_v9_1).Contents (Elt F)) (w2 : (Ref.ty main_v9_2).Contents (Elt F)) (w3 : (Ref.ty main_v9_3).Contents (Elt F)) (w4 : (Ref.ty main_v9_4).Contents (Elt F)) : Prop :=
  ∃ f0 f1 f2 f3 f4 f5 f6 f7 f8 f9 f10 f11 f12 f13 f14 f15 f16 f17 f18 f19 f20 g0 g1 g2 g3 g4, (w0, w1, w2, w3, w4) = (bodyRun c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) f0 f1 f2 f3 f4 f5 f6 f7 f8 f9 f10 f11 f12 f13 f14 f15 f16 f17 f18 f19 f20 g0 g1 g2 g3 g4).1

/-- The invariant before the body: the operands, the results' arrays and the scratch buffers at anything, every cell at zero. -/
def Φ0 (c : Dev nD) : sProp 𝕄 :=
  iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ (∃ g, held c main_v9_0 g) ∗ (∃ g, held c main_v9_1 g) ∗ (∃ g, held c main_v9_2 g) ∗ (∃ g, held c main_v9_3 g) ∗ (∃ g, held c main_v9_4 g) ∗ scrP c ∗ cellsP c)
/-- The invariant after it: the results' arrays at what the body leaves. -/
def Φ1 (c : Dev nD) : sProp 𝕄 :=
  iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ (∃ (w0 : (Ref.ty main_v9_0).Contents (Elt F)) (w1 : (Ref.ty main_v9_1).Contents (Elt F)) (w2 : (Ref.ty main_v9_2).Contents (Elt F)) (w3 : (Ref.ty main_v9_3).Contents (Elt F)) (w4 : (Ref.ty main_v9_4).Contents (Elt F)), ⌜OutOK m c w0 w1 w2 w3 w4⌝ ∗ held c main_v9_0 w0 ∗ held c main_v9_1 w1 ∗ held c main_v9_2 w2 ∗ held c main_v9_3 w3 ∗ held c main_v9_4 w4) ∗ scrP c ∗ cellsP c)

/-- The proof data: no window, the two invariants. -/
def dats (_ : Fin 1) (c : Dev nD) : Dat τ (Elt F) Unit ℕ (UU nD τ) ℕ cfg0 c where
  A w := Gen.V m c (Pipeline.arrRef cfg0.spec w)
  after w t := Fin.elim0 w
  Φ t := if t.val = 0 then Φ0 m c else Φ1 m c
  q _ := fullShare
  owed _ := 0

theorem Φ_first (c : Dev nD) (t : Fin cfg0.N) : (dats m 0 c).Φ t.castSucc = Φ0 m c := by
  have h : t.val = 0 := by have := t.isLt; have : cfg0.N = 1 := Gen.N_0; omega
  exact if_pos h
theorem Φ_next (c : Dev nD) (t : Fin cfg0.N) : (dats m 0 c).Φ t.succ = Φ1 m c := by
  show (if t.succ.val = 0 then Φ0 m c else Φ1 m c) = _
  exact if_neg (by rw [Fin.val_succ]; omega)
theorem Φ_zero (c : Dev nD) : (dats m 0 c).Φ 0 = Φ0 m c := by
  show (if (0 : Fin (cfg0.N + 1)).val = 0 then Φ0 m c else Φ1 m c) = _
  exact if_pos rfl
theorem Φ_last (c : Dev nD) : (dats m 0 c).Φ (Fin.last cfg0.N) = Φ1 m c := by
  show (if (Fin.last cfg0.N).val = 0 then Φ0 m c else Φ1 m c) = _
  exact if_neg (by rw [Fin.val_last]; have : cfg0.N = 1 := Gen.N_0; omega)

/-- The body table's entry is the kernel on its buffers. -/
theorem defs_tc : (defs₀ (F := F)) .tc cfg0.body = fun _ => bodyG := rfl
theorem prog_eq (t : Fin cfg0.N) : (defs₀ (F := F)) .tc cfg0.body (cfg0.bodyArgs t (cfg0.slots t)) = bodyG :=
  (congrFun defs_tc _).trans rfl

set_option maxHeartbeats 4000000 in
set_option maxRecDepth 65536 in
set_option backward.isDefEq.respectTransparency.types false in
theorem body_obligation (c : Dev nD) : BodyObligation (dats (F := F) m 0 c) (defs₀ (F := F)) 𝒱₀ () Set.univ := fun t => by
  rw [show (Finset.univ : Finset (Fin cfg0.W)) = ∅ from rfl, bigSep_empty, bigSep_empty]
  rw [Φ_first, Φ_next]
  unfold Dat.owesAt Pipeline.owesWithin
  rw [show (dats m 0 c).owed t.castSucc = 0 from rfl, show (dats m 0 c).owed t.succ = 0 from rfl]
  unfold Φ0 Φ1
  iintro ⟨⟨HI, ⟨%g0, HO0⟩, ⟨%g1, HO1⟩, ⟨%g2, HO2⟩, ⟨%g3, HO3⟩, ⟨%g4, HO4⟩, ⟨⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩, ⟨%f9, HS9⟩, ⟨%f10, HS10⟩, ⟨%f11, HS11⟩, ⟨%f12, HS12⟩, ⟨%f13, HS13⟩, ⟨%f14, HS14⟩, ⟨%f15, HS15⟩, ⟨%f16, HS16⟩, ⟨%f17, HS17⟩, ⟨%f18, HS18⟩, ⟨%f19, HS19⟩, ⟨%f20, HS20⟩⟩, HC⟩, ⟨%W, -, HW⟩, -⟩
  sl_rw [prog_eq t]
  iapply ((bodyRun c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) f0 f1 f2 f3 f4 f5 f6 f7 f8 f9 f10 f11 f12 f13 f14 f15 f16 f17 f18 f19 f20 g0 g1 g2 g3 g4).2 W)
  isplitl [HI HO0 HO1 HO2 HO3 HO4 HS0 HS1 HS2 HS3 HS4 HS5 HS6 HS7 HS8 HS9 HS10 HS11 HS12 HS13 HS14 HS15 HS16 HS17 HS18 HS19 HS20 HC HW]
  · isplitl [HI]; · iexact HI
    isplitl [HO0]; · iexact HO0
    isplitl [HO1]; · iexact HO1
    isplitl [HO2]; · iexact HO2
    isplitl [HO3]; · iexact HO3
    isplitl [HO4]; · iexact HO4
    isplitl [HS0 HS1 HS2 HS3 HS4 HS5 HS6 HS7 HS8 HS9 HS10 HS11 HS12 HS13 HS14 HS15 HS16 HS17 HS18 HS19 HS20]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      iexact HS20
    isplitl [HC]; · iexact HC
    iexact HW
  · iintro ⟨HI, HO0, HO1, HO2, HO3, HO4, HS, HC, ⟨%W', HW⟩⟩
    isplitl [HI HO0 HO1 HO2 HO3 HO4 HS HC]
    · isplitl [HI]; · iexact HI
      isplitl [HO0 HO1 HO2 HO3 HO4]
      · iexists _, _, _, _, _; isplitr; · ipureintro; exact ⟨f0, f1, f2, f3, f4, f5, f6, f7, f8, f9, f10, f11, f12, f13, f14, f15, f16, f17, f18, f19, f20, g0, g1, g2, g3, g4, rfl⟩
        isplitl [HO0]; · iexact HO0
        isplitl [HO1]; · iexact HO1
        isplitl [HO2]; · iexact HO2
        isplitl [HO3]; · iexact HO3
        iexact HO4
      isplitl [HS]; · iexact HS
      iexact HC
    isplitl [HW]
    · iexists W'; isplitr; · ipureintro; exact fun _ _ => Or.inl trivial
      iexact HW
    iempintro

/-- The kernel's own cells at zero, one by one. -/
theorem ownSems0_eq (c : Dev nD) : (Pipeline.ownSems0 (Ix := Unit) (Name := ℕ) (U := UU nD τ) (Lvl := ℕ) (Val := Elt F) (τ := τ) osem c : sProp 𝕄)
    = cellsP c := by
  unfold Pipeline.ownSems0
  rw [bigSep_univ_eq_bigSepL [(0 : Fin 47), (1 : Fin 47), (2 : Fin 47), (3 : Fin 47), (4 : Fin 47), (5 : Fin 47), (6 : Fin 47), (7 : Fin 47), (8 : Fin 47), (9 : Fin 47), (10 : Fin 47), (11 : Fin 47), (12 : Fin 47), (13 : Fin 47), (14 : Fin 47), (15 : Fin 47), (16 : Fin 47), (17 : Fin 47), (18 : Fin 47), (19 : Fin 47), (20 : Fin 47), (21 : Fin 47), (22 : Fin 47), (23 : Fin 47), (24 : Fin 47), (25 : Fin 47), (26 : Fin 47), (27 : Fin 47), (28 : Fin 47), (29 : Fin 47), (30 : Fin 47), (31 : Fin 47), (32 : Fin 47), (33 : Fin 47), (34 : Fin 47), (35 : Fin 47), (36 : Fin 47), (37 : Fin 47), (38 : Fin 47), (39 : Fin 47), (40 : Fin 47), (41 : Fin 47), (42 : Fin 47), (43 : Fin 47), (44 : Fin 47), (45 : Fin 47), (46 : Fin 47)] (by decide) (by decide)]
  rfl

/-- The arrays outside the region, one by one. -/
theorem unscoped_eq (c : Dev nD) (V : (b : Ref sig .tc) → Buf (Elt F) ((c : Thread nD τ).loc b)) :
    (Pipeline.unscopedRest (Ix := Unit) (Name := ℕ) (U := UU nD τ) (Lvl := ℕ) (cfg0.spec) c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_arg7) ↦{fullShare} V main_arg7) ∗ (((c : Thread nD τ).loc main_arg8) ↦{fullShare} V main_arg8) ∗ (((c : Thread nD τ).loc main_arg9) ↦{fullShare} V main_arg9) ∗ (((c : Thread nD τ).loc main_arg10) ↦{fullShare} V main_arg10) ∗ (((c : Thread nD τ).loc main_arg11) ↦{fullShare} V main_arg11) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v9_0) ↦{fullShare} V main_v9_0) ∗ (((c : Thread nD τ).loc main_v9_1) ↦{fullShare} V main_v9_1) ∗ (((c : Thread nD τ).loc main_v9_2) ↦{fullShare} V main_v9_2) ∗ (((c : Thread nD τ).loc main_v9_3) ↦{fullShare} V main_v9_3) ∗ (((c : Thread nD τ).loc main_v9_4) ↦{fullShare} V main_v9_4)) :=
  Pipeline.unscopedRest_eq_of_list (cfg0.spec) c V [main_arg0, main_arg1, main_arg2, main_arg3, main_arg4, main_arg5, main_arg6, main_arg7, main_arg8, main_arg9, main_arg10, main_arg11, main_v0, main_v1, main_v2, main_v3, main_v4, main_v5, main_v6, main_v7, main_v8, main_v9_0, main_v9_1, main_v9_2, main_v9_3, main_v9_4] (by decide) (by decide)

/-- The arrays the body never sees. -/
def restP (c : Dev nD) : sProp 𝕄 := iprop(held c main_arg0 (Gen.V m c main_arg0) ∗ held c main_arg2 (Gen.V m c main_arg2) ∗ held c main_arg3 (Gen.V m c main_arg3) ∗ held c main_arg5 (Gen.V m c main_arg5) ∗ held c main_arg6 (Gen.V m c main_arg6) ∗ held c main_arg7 (Gen.V m c main_arg7) ∗ held c main_arg8 (Gen.V m c main_arg8) ∗ held c main_arg10 (Gen.V m c main_arg10) ∗ held c main_arg11 (Gen.V m c main_arg11))
/-- What goes into the region beside its scratch. -/
def intoΦ (c : Dev nD) : sProp 𝕄 := iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ ((∃ g, held c main_v9_0 g) ∗ (∃ g, held c main_v9_1 g) ∗ (∃ g, held c main_v9_2 g) ∗ (∃ g, held c main_v9_3 g) ∗ (∃ g, held c main_v9_4 g)) ∗ cellsP c)
/-- What comes out of it. -/
def outOfΦ (c : Dev nD) : sProp 𝕄 := iprop(insP c (Gen.V m c main_v0) (Gen.V m c main_arg1) (Gen.V m c main_v1) (Gen.V m c main_v2) (Gen.V m c main_arg4) (Gen.V m c main_v3) (Gen.V m c main_v4) (Gen.V m c main_v5) (Gen.V m c main_v6) (Gen.V m c main_arg9) (Gen.V m c main_v7) (Gen.V m c main_v8) ∗ (∃ (w0 : (Ref.ty main_v9_0).Contents (Elt F)) (w1 : (Ref.ty main_v9_1).Contents (Elt F)) (w2 : (Ref.ty main_v9_2).Contents (Elt F)) (w3 : (Ref.ty main_v9_3).Contents (Elt F)) (w4 : (Ref.ty main_v9_4).Contents (Elt F)), ⌜OutOK m c w0 w1 w2 w3 w4⌝ ∗ held c main_v9_0 w0 ∗ held c main_v9_1 w1 ∗ held c main_v9_2 w2 ∗ held c main_v9_3 w3 ∗ held c main_v9_4 w4))
def u₀ : UU nD τ := (initOf (Pipeline.cells cfgs Gen.cellOf_inj) (Pipeline.launchToks cfgs Gen.cellOf_inj), 1)

/-- What the memory is at the end: the arguments as launched and the results at what the body leaves. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8) ∧ s.mem ((c : Thread nD τ).loc main_arg9) = m ((c : Thread nD τ).loc main_arg9) ∧ s.mem ((c : Thread nD τ).loc main_arg10) = m ((c : Thread nD τ).loc main_arg10) ∧ s.mem ((c : Thread nD τ).loc main_arg11) = m ((c : Thread nD τ).loc main_arg11))
  ∧ OutOK m c (s.mem ((c : Thread nD τ).loc main_v9_0)) (s.mem ((c : Thread nD τ).loc main_v9_1)) (s.mem ((c : Thread nD τ).loc main_v9_2)) (s.mem ((c : Thread nD τ).loc main_v9_3)) (s.mem ((c : Thread nD τ).loc main_v9_4))

set_option maxHeartbeats 1600000 in
set_option maxRecDepth 65536 in
set_option backward.isDefEq.respectTransparency.types false in
/-- THE RUN: from any memory with zero counters @main terminates, the arguments unchanged, the results at what the body
    leaves, every semaphore counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ _ => rfl)
    (X := intoΦ m) (Y := outOfΦ m) (Z := restP m)
    (hX := fun c => by
      rw [unscoped_eq, ownSems0_eq]
      unfold intoΦ restP
      iintro ⟨⟨H_main_arg0, H_main_arg1, H_main_arg2, H_main_arg3, H_main_arg4, H_main_arg5, H_main_arg6, H_main_arg7, H_main_arg8, H_main_arg9, H_main_arg10, H_main_arg11, H_main_v0, H_main_v1, H_main_v2, H_main_v3, H_main_v4, H_main_v5, H_main_v6, H_main_v7, H_main_v8, H_main_v9_0, H_main_v9_1, H_main_v9_2, H_main_v9_3, H_main_v9_4⟩, HC, -, -, -⟩; imodintro
      isplitl [H_main_v0 H_main_arg1 H_main_v1 H_main_v2 H_main_arg4 H_main_v3 H_main_v4 H_main_v5 H_main_v6 H_main_arg9 H_main_v7 H_main_v8 H_main_v9_0 H_main_v9_1 H_main_v9_2 H_main_v9_3 H_main_v9_4 HC]
      · isplitl [H_main_v0 H_main_arg1 H_main_v1 H_main_v2 H_main_arg4 H_main_v3 H_main_v4 H_main_v5 H_main_v6 H_main_arg9 H_main_v7 H_main_v8]
        · isplitl [H_main_v0]; · iexact H_main_v0
          isplitl [H_main_arg1]; · iexact H_main_arg1
          isplitl [H_main_v1]; · iexact H_main_v1
          isplitl [H_main_v2]; · iexact H_main_v2
          isplitl [H_main_arg4]; · iexact H_main_arg4
          isplitl [H_main_v3]; · iexact H_main_v3
          isplitl [H_main_v4]; · iexact H_main_v4
          isplitl [H_main_v5]; · iexact H_main_v5
          isplitl [H_main_v6]; · iexact H_main_v6
          isplitl [H_main_arg9]; · iexact H_main_arg9
          isplitl [H_main_v7]; · iexact H_main_v7
          iexact H_main_v8
        isplitl [H_main_v9_0 H_main_v9_1 H_main_v9_2 H_main_v9_3 H_main_v9_4]
        · isplitl [H_main_v9_0]; · iexists _; iexact H_main_v9_0
          isplitl [H_main_v9_1]; · iexists _; iexact H_main_v9_1
          isplitl [H_main_v9_2]; · iexists _; iexact H_main_v9_2
          isplitl [H_main_v9_3]; · iexists _; iexact H_main_v9_3
          iexists _; iexact H_main_v9_4
        iexact HC
      isplitl [H_main_arg0]; · iexact H_main_arg0
      isplitl [H_main_arg2]; · iexact H_main_arg2
      isplitl [H_main_arg3]; · iexact H_main_arg3
      isplitl [H_main_arg5]; · iexact H_main_arg5
      isplitl [H_main_arg6]; · iexact H_main_arg6
      isplitl [H_main_arg7]; · iexact H_main_arg7
      isplitl [H_main_arg8]; · iexact H_main_arg8
      isplitl [H_main_arg10]; · iexact H_main_arg10
      iexact H_main_arg11)
    (hin := fun c => by
      rw [scopedRest0_eq, Φ_zero]
      unfold intoΦ Φ0
      iintro ⟨⟨HI, ⟨HO0, HO1, HO2, HO3, HO4⟩, HC⟩, HS⟩
      isplitl [HI]; · iexact HI
      isplitl [HO0]; · iexact HO0
      isplitl [HO1]; · iexact HO1
      isplitl [HO2]; · iexact HO2
      isplitl [HO3]; · iexact HO3
      isplitl [HO4]; · iexact HO4
      isplitl [HS]; · iexact HS
      iexact HC)
    (hout := fun c => by
      rw [scopedRest0_eq, Φ_last, ownSems0_eq]
      unfold Φ1 outOfΦ
      iintro ⟨HI, HO, HS, HC⟩
      isplitl [HI HO]
      · isplitl [HI]; · iexact HI
        iexact HO
      isplitl [HC]; · iexact HC
      iexact HS)
    (QY := QY m)
    (hY := fun c s' => by
      unfold outOfΦ restP
      iintro ⟨⟨⟨HI0, HI1, HI2, HI3, HI4, HI5, HI6, HI7, HI8, HI9, HI10, HI11⟩, ⟨%w0, %w1, %w2, %w3, %w4, %hw, HO0, HO1, HO2, HO3, HO4⟩⟩, ⟨H_main_arg0, H_main_arg2, H_main_arg3, H_main_arg5, H_main_arg6, H_main_arg7, H_main_arg8, H_main_arg10, H_main_arg11⟩, HSI⟩
      icombine HSI HI1 gives %h_main_arg1
      icombine HSI HI4 gives %h_main_arg4
      icombine HSI HI9 gives %h_main_arg9
      icombine HSI H_main_arg0 gives %h_main_arg0
      icombine HSI H_main_arg2 gives %h_main_arg2
      icombine HSI H_main_arg3 gives %h_main_arg3
      icombine HSI H_main_arg5 gives %h_main_arg5
      icombine HSI H_main_arg6 gives %h_main_arg6
      icombine HSI H_main_arg7 gives %h_main_arg7
      icombine HSI H_main_arg8 gives %h_main_arg8
      icombine HSI H_main_arg10 gives %h_main_arg10
      icombine HSI H_main_arg11 gives %h_main_arg11
      icombine HSI HO0 gives %ho0
      icombine HSI HO1 gives %ho1
      icombine HSI HO2 gives %ho2
      icombine HSI HO3 gives %ho3
      icombine HSI HO4 gives %ho4
      imodintro
      isplitr
      · ipureintro
        refine ⟨⟨(Buf.eq_of_forall_mem_univ h_main_arg0).trans (V_main_arg0 m c), (Buf.eq_of_forall_mem_univ h_main_arg1).trans (V_main_arg1 m c), (Buf.eq_of_forall_mem_univ h_main_arg2).trans (V_main_arg2 m c), (Buf.eq_of_forall_mem_univ h_main_arg3).trans (V_main_arg3 m c), (Buf.eq_of_forall_mem_univ h_main_arg4).trans (V_main_arg4 m c), (Buf.eq_of_forall_mem_univ h_main_arg5).trans (V_main_arg5 m c), (Buf.eq_of_forall_mem_univ h_main_arg6).trans (V_main_arg6 m c), (Buf.eq_of_forall_mem_univ h_main_arg7).trans (V_main_arg7 m c), (Buf.eq_of_forall_mem_univ h_main_arg8).trans (V_main_arg8 m c), (Buf.eq_of_forall_mem_univ h_main_arg9).trans (V_main_arg9 m c), (Buf.eq_of_forall_mem_univ h_main_arg10).trans (V_main_arg10 m c), (Buf.eq_of_forall_mem_univ h_main_arg11).trans (V_main_arg11 m c)⟩, ?_⟩
        have e0 : s'.mem.mem ((c : Thread nD τ).loc main_v9_0) = w0 := Buf.eq_of_forall_mem_univ ho0
        have e1 : s'.mem.mem ((c : Thread nD τ).loc main_v9_1) = w1 := Buf.eq_of_forall_mem_univ ho1
        have e2 : s'.mem.mem ((c : Thread nD τ).loc main_v9_2) = w2 := Buf.eq_of_forall_mem_univ ho2
        have e3 : s'.mem.mem ((c : Thread nD τ).loc main_v9_3) = w3 := Buf.eq_of_forall_mem_univ ho3
        have e4 : s'.mem.mem ((c : Thread nD τ).loc main_v9_4) = w4 := Buf.eq_of_forall_mem_univ ho4
        rw [e0, e1, e2, e3, e4]; exact hw
      iexact HSI)
    (hQ := fun _ hh hz => ⟨fun c => (hh c).2, hz⟩)

end Cert.KernelIdeal.Body

end
-- ==== Proof.KernelIdealOut.lean ====
module

public import proofs.«01_k».proof.Proof.KernelIdealNorm
public import proofs.«01_k».proof.Proof.KernelIdealRun

@[expose] public section

noncomputable section

namespace Cert.KernelIdeal.Read

open Cert.KernelIdeal Cert.KernelIdeal.Gen Cert.KernelIdeal.Body Cert.KernelIdeal.Steps
open Idealize.ShloMosaic Idealize.ShloMosaic.TcCoe

/-! The second codes, the second product, and what leaves the kernel: five whole-array functions of the arguments. -/

variable (a0 : Vec Ideal S16x16x2048 .bf16) (a1 : Vec Ideal S256x2048 .f32) (a2 a3 : Vec Ideal S1x2048 .f32) (a4 : Vec Ideal S2048x8192 .fp8e4m3)
  (a5 a6 a7 a8 : Vec Ideal S1x8192 .f32) (a9 : Vec Ideal S8192x2048 .fp8e4m3) (a10 a11 : Vec Ideal S1x2048 .f32)
variable (f0 : Vec Ideal S16x16x2048 .bf16) (f1 : Vec Ideal S256x2048 .f32) (f2 f3 : Vec Ideal S1x2048 .f32) (f4 : Vec Ideal S16x2048x512 .fp8e4m3)
  (f5 f6 f7 f8 : Vec Ideal S1x8192 .f32) (f10 f11 : Vec Ideal S1x2048 .f32)

/-! ## The loads after the normalisation -/

theorem hn_eq (r : Fin 256) (k : Fin 8192) : grnN a1 a2 a3 a4 a5 a6 a7 a8 r k = Net.hn (at2 a1) (at1 a2) (at1 a3) (at2 a4) (at1 a5) (at1 a6) (at1 a7) (at1 a8) r k :=
  Net.grn_eq (hidN a1 a2 a3 a4 a5 a6) (at1 a7) (at1 a8) r k
theorem e2_eq (r : Fin 256) : e2N a1 a2 a3 a4 a5 a6 a7 a8 r = Net.e2 (at2 a1) (at1 a2) (at1 a3) (at2 a4) (at1 a5) (at1 a6) (at1 a7) (at1 a8) r :=
  congrArg Net.rowE (funext fun k => hn_eq a1 a2 a3 a4 a5 a6 a7 a8 r k)
theorem hC_at (n : ℕ) (hn : n < 16) (r : Fin 256) (k : Fin 512) : hC (F := Ideal) a1 a2 a3 a4 a5 a6 a7 a8 f1 f2 f3 f4 f5 f6 f7 f8 n (ix2 r k) = Net.hn (at2 a1) (at1 a2) (at1 a3) (at2 a4) (at1 a5) (at1 a6) (at1 a7) (at1 a8) r (⟨512 * n + k.val, by omega⟩ : Fin 8192) := by
  unfold hC
  rw [blk8]
  have q := blk_canon a1 a2 a3 a4 a5 a6 a7 a8 f1 f2 f3 f4 f5 f6 f7 f8 8 le_rfl r (⟨512 * n + k.val, by omega⟩ : Fin 8192)
  generalize blk (F := Ideal) a1 a2 a3 a4 a5 a6 a7 a8 f1 f2 f3 f4 f5 f6 f7 f8 8 = L at q ⊢
  rw [View.readCov_eq_canon']
  have hn' : n % 16 = n := by omega
  have e : (chR n).toLoadRect.idx (ix2 r k) = ix2 r (⟨512 * n + k.val, by omega⟩ : Fin 8192) := by
    have : (chR n).emb (ix2 r k) = ix2 r (⟨512 * n + k.val, by omega⟩ : Fin 8192) := by idx_ext
    exact this
  beta_reduce
  rw [e, q, if_pos (by omega), hn_eq]
theorem v7695_at (r : Fin 256) : bodyRun.sl.v7695 (F := Ideal) a1 a2 a3 a4 a5 a6 a7 a8 f1 f2 f3 f4 f5 f6 f7 f8 (ix3 (0 : Fin 1) r (0 : Fin 1)) = Net.invF (Net.e2 (at2 a1) (at1 a2) (at1 a3) (at2 a4) (at1 a5) (at1 a6) (at1 a7) (at1 a8) r) := by
  unfold bodyRun.sl.v7695
  rw [sL_eq, View.readCov_eq_canon']
  have e : (Rect.unit (s := S2x256x128) ![1, 0, 0] S1x256x1.size inb_S2x256x128_S1x256x1_1_0_0).toLoadRect.idx (ix3 (0 : Fin 1) r (0 : Fin 1)) = ix3 (1 : Fin 2) r (0 : Fin 128) := by
    have : (Rect.unit (s := S2x256x128) ![1, 0, 0] S1x256x1.size inb_S2x256x128_S1x256x1_1_0_0).emb (ix3 (0 : Fin 1) r (0 : Fin 1)) = ix3 (1 : Fin 2) r (0 : Fin 128) := by idx_ext
    exact this
  beta_reduce
  rw [e, sL_canon, ← e2_eq]
  rfl
theorem v8073_at (r : Fin 256) : bodyRun.sl.v8073 (F := Ideal) a1 a2 a3 a4 a5 a6 a7 a8 f1 f2 f3 f4 f5 f6 f7 f8 (ix3 (0 : Fin 1) r (0 : Fin 1)) = Net.s2 (at2 a1) (at1 a2) (at1 a3) (at2 a4) (at1 a5) (at1 a6) (at1 a7) (at1 a8) r := by
  unfold bodyRun.sl.v8073
  rw [sL_eq, View.readCov_eq_canon']
  have e : (Rect.unit (s := S2x256x128) ![0, 0, 0] S1x256x1.size inb_S2x256x128_S1x256x1_0_0_0).toLoadRect.idx (ix3 (0 : Fin 1) r (0 : Fin 1)) = ix3 (0 : Fin 2) r (0 : Fin 128) := by
    have : (Rect.unit (s := S2x256x128) ![0, 0, 0] S1x256x1.size inb_S2x256x128_S1x256x1_0_0_0).emb (ix3 (0 : Fin 1) r (0 : Fin 1)) = ix3 (0 : Fin 2) r (0 : Fin 128) := by idx_ext
    exact this
  beta_reduce
  unfold Net.s2
  rw [e, sL_canon, ← e2_eq]
  rfl
theorem v8111_at (r : Fin 128) : bodyRun.sl.v8111 (F := Ideal) a1 a2 a3 a4 a5 a6 a7 a8 f1 f2 f3 f4 f5 f6 f7 f8 (ix3 (0 : Fin 1) r (0 : Fin 1)) = Net.s2 (at2 a1) (at1 a2) (at1 a3) (at2 a4) (at1 a5) (at1 a6) (at1 a7) (at1 a8) (⟨r.val, by omega⟩ : Fin 256) := by
  unfold bodyRun.sl.v8111
  rw [sL_eq, View.readCov_eq_canon']
  have e : (Rect.unit (s := S2x256x128) ![0, 0, 0] S1x128x1.size inb_S2x256x128_S1x128x1_0_0_0).toLoadRect.idx (ix3 (0 : Fin 1) r (0 : Fin 1)) = ix3 (0 : Fin 2) (⟨r.val, by omega⟩ : Fin 256) (0 : Fin 128) := by
    have : (Rect.unit (s := S2x256x128) ![0, 0, 0] S1x128x1.size inb_S2x256x128_S1x128x1_0_0_0).emb (ix3 (0 : Fin 1) r (0 : Fin 1)) = ix3 (0 : Fin 2) (⟨r.val, by omega⟩ : Fin 256) (0 : Fin 128) := by idx_ext
    exact this
  beta_reduce
  unfold Net.s2
  rw [e, sL_canon, ← e2_eq]
  rfl
theorem v8122_at (r : Fin 128) : bodyRun.sl.v8122 (F := Ideal) a1 a2 a3 a4 a5 a6 a7 a8 f1 f2 f3 f4 f5 f6 f7 f8 (ix3 (0 : Fin 1) r (0 : Fin 1)) = Net.s2 (at2 a1) (at1 a2) (at1 a3) (at2 a4) (at1 a5) (at1 a6) (at1 a7) (at1 a8) (⟨128 + r.val, by omega⟩ : Fin 256) := by
  unfold bodyRun.sl.v8122
  rw [sL_eq, View.readCov_eq_canon']
  have e : (Rect.unit (s := S2x256x128) ![0, 128, 0] S1x128x1.size inb_S2x256x128_S1x128x1_0_128_0).toLoadRect.idx (ix3 (0 : Fin 1) r (0 : Fin 1)) = ix3 (0 : Fin 2) (⟨128 + r.val, by omega⟩ : Fin 256) (0 : Fin 128) := by
    have : (Rect.unit (s := S2x256x128) ![0, 128, 0] S1x128x1.size inb_S2x256x128_S1x128x1_0_128_0).emb (ix3 (0 : Fin 1) r (0 : Fin 1)) = ix3 (0 : Fin 2) (⟨128 + r.val, by omega⟩ : Fin 256) (0 : Fin 128) := by idx_ext
    exact this
  beta_reduce
  unfold Net.s2
  rw [e, sL_canon, ← e2_eq]
  rfl
theorem v8091_at (r : Fin 128) : bodyRun.sl.v8091 (F := Ideal) a1 a2 a3 f1 f2 f3 (ix2 r (0 : Fin 1)) = Net.s1 (at2 a1) (at1 a2) (at1 a3) (⟨r.val, by omega⟩ : Fin 256) := by
  unfold bodyRun.sl.v8091
  have q := s1_canon a1 a2 a3 f1 f2 f3
  rw [s1L_eq]
  generalize s1L (F := Ideal) a1 a2 a3 f1 f2 f3 8 = L at q ⊢
  rw [View.readCov_eq_canon']
  have e : (Rect.unit (s := S256x128) ![0, 0] S128x1.size inb_S256x128_S128x1_0_0).toLoadRect.idx (ix2 r (0 : Fin 1)) = ix2 (⟨r.val, by omega⟩ : Fin 256) (0 : Fin 128) := by
    have : (Rect.unit (s := S256x128) ![0, 0] S128x1.size inb_S256x128_S128x1_0_0).emb (ix2 r (0 : Fin 1)) = ix2 (⟨r.val, by omega⟩ : Fin 256) (0 : Fin 128) := by idx_ext
    exact this
  beta_reduce
  rw [e, q]
  rfl
theorem v8101_at (r : Fin 128) : bodyRun.sl.v8101 (F := Ideal) a1 a2 a3 f1 f2 f3 (ix2 r (0 : Fin 1)) = Net.s1 (at2 a1) (at1 a2) (at1 a3) (⟨128 + r.val, by omega⟩ : Fin 256) := by
  unfold bodyRun.sl.v8101
  have q := s1_canon a1 a2 a3 f1 f2 f3
  rw [s1L_eq]
  generalize s1L (F := Ideal) a1 a2 a3 f1 f2 f3 8 = L at q ⊢
  rw [View.readCov_eq_canon']
  have e : (Rect.unit (s := S256x128) ![128, 0] S128x1.size inb_S256x128_S128x1_128_0).toLoadRect.idx (ix2 r (0 : Fin 1)) = ix2 (⟨128 + r.val, by omega⟩ : Fin 256) (0 : Fin 128) := by
    have : (Rect.unit (s := S256x128) ![128, 0] S128x1.size inb_S256x128_S128x1_128_0).emb (ix2 r (0 : Fin 1)) = ix2 (⟨128 + r.val, by omega⟩ : Fin 256) (0 : Fin 128) := by idx_ext
    exact this
  beta_reduce
  rw [e, q]
  rfl

/-! ## The second codes -/

theorem pay1433_at (h : Vec Ideal S256x512 .f32) (s : Vec Ideal S1x256x1 .f32) (r : Fin 256) (k : Fin 512) : k0_pay1433 h s (ix2 r k) = Net.codeF (h (ix2 r k)) (s (ix3 (0 : Fin 1) r (0 : Fin 1))) := by
  pointwise [k0_pay1433]
  rfl
theorem pay1434_at (h : Vec Ideal S256x512 .f32) (s : Vec Ideal S1x256x1 .f32) (r : Fin 256) (k : Fin 512) : k0_pay1434 h s (ix2 r k) = Net.codeF (h (ix2 r k)) (s (ix3 (0 : Fin 1) r (0 : Fin 1))) := by
  unfold k0_pay1434
  rw [shapeCast_self]
  exact pay1433_at h s r k
theorem pay1435_at (h : Vec Ideal S256x512 .f32) (s : Vec Ideal S1x256x1 .f32) (w : Vec Ideal S512x2048 .fp8e4m3) (r : Fin 256) (n : Fin 2048) :
    k0_pay1435 h s w (ix2 r n) = ∑ k, Net.codeF (h (ix2 r k)) (s (ix3 (0 : Fin 1) r (0 : Fin 1))) * w (ix2 k n) := by
  have q := pay1433_at h s r
  unfold k0_pay1435
  generalize k0_pay1433 h s = Z at q ⊢
  simp only [← q]
  pointwise []
theorem pay1438_at (h : Vec Ideal S256x512 .f32) (s : Vec Ideal S1x256x1 .f32) (w : Vec Ideal S512x2048 .fp8e4m3) (A : Vec Ideal S256x2048 .f32) (r : Fin 256) (n : Fin 2048) :
    k0_pay1438 h s w A (ix2 r n) = A (ix2 r n) + ∑ k, Net.codeF (h (ix2 r k)) (s (ix3 (0 : Fin 1) r (0 : Fin 1))) * w (ix2 k n) := by
  have q : ∀ k, k0_pay1436 h s (ix2 r k) = Net.codeF (h (ix2 r k)) (s (ix3 (0 : Fin 1) r (0 : Fin 1))) := fun k => pay1433_at h s r k
  unfold k0_pay1438
  generalize k0_pay1436 h s = Z at q ⊢
  simp only [← q]
  pointwise []
/-- The second codes. -/
def q2V : Vec Ideal S256x8192 .fp8e4m3 := fun i => Net.q2 (at2 a1) (at1 a2) (at1 a3) (at2 a4) (at1 a5) (at1 a6) (at1 a7) (at1 a8) (i 0 : Fin 256) (i 1 : Fin 8192)
theorem q2_step (n : ℕ) (hn : n < 16) (r : Fin 256) (k : Fin 512) :
    Net.codeF (hC (F := Ideal) a1 a2 a3 a4 a5 a6 a7 a8 f1 f2 f3 f4 f5 f6 f7 f8 n (ix2 r k)) (bodyRun.sl.v7695 (F := Ideal) a1 a2 a3 a4 a5 a6 a7 a8 f1 f2 f3 f4 f5 f6 f7 f8 (ix3 (0 : Fin 1) r (0 : Fin 1)))
      = Net.q2 (at2 a1) (at1 a2) (at1 a3) (at2 a4) (at1 a5) (at1 a6) (at1 a7) (at1 a8) r (⟨512 * n + k.val, by omega⟩ : Fin 8192) := by
  rw [hC_at a1 a2 a3 a4 a5 a6 a7 a8 f1 f2 f3 f4 f5 f6 f7 f8 n hn r k, v7695_at]
  rfl
theorem q2_canon (y : S256x8192.Idx) : View.canon (bodyRun.sl.HS14_16 (F := Ideal) a1 a2 a3 a4 a5 a6 a7 a8 f1 f2 f3 f4 f5 f6 f7 f8) y = q2V a1 a2 a3 a4 a5 a6 a7 a8 y := by
  rw [q2L_eq]
  refine canon_rec (q2L (F := Ideal) a1 a2 a3 a4 a5 a6 a7 a8 f1 f2 f3 f4 f5 f6 f7 f8) (fun n => ⟨chR n, k0_pay1434 (hC a1 a2 a3 a4 a5 a6 a7 a8 f1 f2 f3 f4 f5 f6 f7 f8 n) (bodyRun.sl.v7695 a1 a2 a3 a4 a5 a6 a7 a8 f1 f2 f3 f4 f5 f6 f7 f8)⟩) (fun _ => rfl) _ 16 ?_ y ?_
  · intro n hn x
    obtain ⟨r, k, rfl⟩ : ∃ (r : Fin 256) (k : Fin 512), x = ix2 r k := ⟨x 0, x 1, by idx_ext⟩
    refine (pay1434_at _ _ r k).trans ((q2_step a1 a2 a3 a4 a5 a6 a7 a8 f1 f2 f3 f4 f5 f6 f7 f8 n hn r k).trans ?_)
    have hn' : n % 16 = n := by omega
    have e : (chR n).emb (ix2 r k) = ix2 r (⟨512 * n + k.val, by omega⟩ : Fin 8192) := by idx_ext
    exact (congrArg (q2V a1 a2 a3 a4 a5 a6 a7 a8) e).symm
  · obtain ⟨r, k, rfl⟩ : ∃ (r : Fin 256) (k : Fin 8192), y = ix2 r k := ⟨y 0, y 1, by idx_ext⟩
    refine ⟨k.val / 512, by omega, ?_⟩
    show _ ∈ (chR (k.val / 512)).set
    rw [Rect.mem_set_unit]
    refine Fin.forall_fin_two.mpr ⟨⟨?_, ?_⟩, ⟨?_, ?_⟩⟩
    · show 0 ≤ r.val; omega
    · show r.val < 0 + 256; omega
    · show 512 * (k.val / 512 % 16) ≤ k.val; omega
    · show k.val < 512 * (k.val / 512 % 16) + 512; omega

/-! ## The second product -/

theorem w2_canon (y : S8192x2048.Idx) : View.canon (w2L (F := Ideal) a9 16) y = a9 y := by
  refine canon_rec (w2L (F := Ideal) a9) (fun n => ⟨rwW n, ReadAs.same.apply (View.read (Elt Ideal) ((Memref.whole main_arg9).slice (rwW n) (fun _ => rfl)).view a9)⟩) (fun _ => rfl) a9 16 ?_ y ?_
  · intro n hn x
    rfl
  · obtain ⟨r, k, rfl⟩ : ∃ (r : Fin 8192) (k : Fin 2048), y = ix2 r k := ⟨y 0, y 1, by idx_ext⟩
    refine ⟨r.val / 512, by omega, ?_⟩
    show _ ∈ (rwW (r.val / 512)).set
    rw [Rect.mem_set_unit]
    refine Fin.forall_fin_two.mpr ⟨⟨?_, ?_⟩, ⟨?_, ?_⟩⟩
    · show 512 * (r.val / 512 % 16) ≤ r.val; omega
    · show r.val < 512 * (r.val / 512 % 16) + 512; omega
    · show 0 ≤ k.val; omega
    · show k.val < 0 + 2048; omega
theorem w2C_at (n : ℕ) (hn : n < 16) (x : Fin 512) (k : Fin 2048) : w2C (F := Ideal) a9 n (ix2 x k) = a9 (ix2 (⟨512 * n + x.val, by omega⟩ : Fin 8192) k) := by
  unfold w2C
  have q := w2_canon a9
  generalize w2L (F := Ideal) a9 16 = L at q ⊢
  rw [View.readCov_eq_canon']
  have hn' : n % 16 = n := by omega
  have e : (rwW n).toLoadRect.idx (ix2 x k) = ix2 (⟨512 * n + x.val, by omega⟩ : Fin 8192) k := by
    have : (rwW n).emb (ix2 x k) = ix2 (⟨512 * n + x.val, by omega⟩ : Fin 8192) k := by idx_ext
    exact this
  beta_reduce
  rw [e, q]
/-- One chunk's part of the product. -/
def partF (Q : Fin 256 → Fin 8192 → EReal) (r : Fin 256) (n : Fin 2048) (j : ℕ) : EReal :=
  ∑ k : Fin 512, Q r (⟨512 * (j % 16) + k.val, by omega⟩ : Fin 8192) * a9 (ix2 (⟨512 * (j % 16) + k.val, by omega⟩ : Fin 8192) n)
theorem part_step (j : ℕ) (hj : j < 16) (r : Fin 256) (n : Fin 2048) :
    ∑ k, Net.codeF (hC (F := Ideal) a1 a2 a3 a4 a5 a6 a7 a8 f1 f2 f3 f4 f5 f6 f7 f8 j (ix2 r k)) (bodyRun.sl.v7695 (F := Ideal) a1 a2 a3 a4 a5 a6 a7 a8 f1 f2 f3 f4 f5 f6 f7 f8 (ix3 (0 : Fin 1) r (0 : Fin 1))) * w2C (F := Ideal) a9 j (ix2 k n)
      = partF a9 (Net.q2 (at2 a1) (at1 a2) (at1 a3) (at2 a4) (at1 a5) (at1 a6) (at1 a7) (at1 a8)) r n j := by
  have hj' : j % 16 = j := by omega
  unfold partF
  refine Finset.sum_congr rfl fun k _ => ?_
  rw [q2_step a1 a2 a3 a4 a5 a6 a7 a8 f1 f2 f3 f4 f5 f6 f7 f8 j hj r k, w2C_at a9 j hj k n]
  simp only [hj']
theorem acc_canon (N : ℕ) (hN : N < 16) (r : Fin 256) (n : Fin 2048) :
    View.canon (accL (F := Ideal) a1 a2 a3 a4 a5 a6 a7 a8 a9 f1 f2 f3 f4 f5 f6 f7 f8 N) (ix2 r n) = ∑ j ∈ Finset.range (N + 1), partF a9 (Net.q2 (at2 a1) (at1 a2) (at1 a3) (at2 a4) (at1 a5) (at1 a6) (at1 a7) (at1 a8)) r n j := by
  have e : (Rect.unit (s := S256x2048) ![0, 0] S256x2048.size inb_S256x2048_S256x2048_0_0).emb (ix2 r n) = ix2 r n := by idx_ext
  induction N with
  | zero =>
    unfold accL
    refine (canon_head _ _ _ _ e).trans ((pay1435_at _ _ _ r n).trans ?_)
    rw [part_step a1 a2 a3 a4 a5 a6 a7 a8 a9 f1 f2 f3 f4 f5 f6 f7 f8 0 hN r n]
    simp
  | succ N ih =>
    unfold accL
    refine (canon_head _ _ _ _ e).trans ((pay1438_at _ _ _ _ r n).trans ?_)
    rw [part_step a1 a2 a3 a4 a5 a6 a7 a8 a9 f1 f2 f3 f4 f5 f6 f7 f8 (N + 1) hN r n, Finset.sum_range_succ _ (N + 1), ← ih (by omega)]
    generalize accL (F := Ideal) a1 a2 a3 a4 a5 a6 a7 a8 a9 f1 f2 f3 f4 f5 f6 f7 f8 N = L
    rw [View.readCov_eq_canon']
    exact congrArg (fun t => View.canon L t + _) e
theorem acc_at (r : Fin 256) (n : Fin 2048) : bodyRun.sl.v8072 (F := Ideal) a1 a2 a3 a4 a5 a6 a7 a8 a9 f1 f2 f3 f4 f5 f6 f7 f8 (ix2 r n)
    = ∑ k : Fin 8192, Net.q2 (at2 a1) (at1 a2) (at1 a3) (at2 a4) (at1 a5) (at1 a6) (at1 a7) (at1 a8) r k * a9 (ix2 k n) := by
  have e : (Rect.unit (s := S256x2048) ![0, 0] S256x2048.size inb_S256x2048_S256x2048_0_0).emb (ix2 r n) = ix2 r n := by idx_ext
  unfold bodyRun.sl.v8072
  rw [accL_eq]
  have q := acc_canon a1 a2 a3 a4 a5 a6 a7 a8 a9 f1 f2 f3 f4 f5 f6 f7 f8 15 (by omega) r n
  generalize accL (F := Ideal) a1 a2 a3 a4 a5 a6 a7 a8 a9 f1 f2 f3 f4 f5 f6 f7 f8 15 = L at q ⊢
  rw [View.readCov_eq_canon']
  refine (congrArg (View.canon L) e).trans (q.trans ?_)
  generalize Net.q2 (at2 a1) (at1 a2) (at1 a3) (at2 a4) (at1 a5) (at1 a6) (at1 a7) (at1 a8) = Q
  rw [Fin.sum_univ_tiles 16 512 rfl (fun k : Fin 8192 => Q r k * a9 (ix2 k n)), Finset.sum_range]
  refine Finset.sum_congr rfl fun j _ => ?_
  unfold partF
  refine Finset.sum_congr rfl fun k _ => ?_
  have ek : (⟨512 * (j.val % 16) + k.val, by omega⟩ : Fin 8192) = ⟨j.val * 512 + k.val, by omega⟩ := Fin.ext (by show 512 * (j.val % 16) + k.val = j.val * 512 + k.val; omega)
  rw [ek]

/-! ## The output -/

/-- The output: the input plus the scaled and shifted product. -/
def outV : Vec Ideal S256x2048 .bf16 := fun i =>
  (shapeCast S256x2048 a0 shapeCasts_S16x16x2048_S256x2048 : Vec Ideal S256x2048 .bf16) i
    + Net.mF (at2 a1) (at1 a2) (at1 a3) (at2 a4) (at1 a5) (at1 a6) (at1 a7) (at1 a8) (at2 a9) (at1 a10) (at1 a11) (i 0 : Fin 256) (i 1 : Fin 2048)
theorem pay1487_at (A : Vec Ideal S256x2048 .f32) (S : Vec Ideal S1x256x1 .f32) (W B : Vec Ideal S1x2048 .f32) (X : Vec Ideal S16x16x2048 .bf16) (r : Fin 256) (n : Fin 2048) :
    k0_pay1487 A S W B X (ix2 r n) = (shapeCast S256x2048 X shapeCasts_S16x16x2048_S256x2048 : Vec Ideal S256x2048 .bf16) (ix2 r n)
      + (A (ix2 r n) * S (ix3 (0 : Fin 1) r (0 : Fin 1)) * W (ix2 (0 : Fin 1) n) + B (ix2 (0 : Fin 1) n)) := by
  pointwise [k0_pay1487]
theorem v8077_at (n : Fin 2048) : bodyRun.sl.v8077 (F := Ideal) a10 f10 (ix2 (0 : Fin 1) n) = a10 (ix2 (0 : Fin 1) n) := by
  unfold bodyRun.sl.v8077; rw [load_whole]; exact congrArg a10 (by idx_ext)
theorem v8080_at (n : Fin 2048) : bodyRun.sl.v8080 (F := Ideal) a11 f11 (ix2 (0 : Fin 1) n) = a11 (ix2 (0 : Fin 1) n) := by
  unfold bodyRun.sl.v8080; rw [load_whole]; exact congrArg a11 (by idx_ext)
theorem v8083_eq : bodyRun.sl.v8083 (F := Ideal) a0 f0 = a0 := by
  unfold bodyRun.sl.v8083; rw [load_whole]; exact funext fun x => congrArg a0 (by idx_ext)
theorem out_at (r : Fin 256) (n : Fin 2048) : k0_pay1487 (bodyRun.sl.v8072 (F := Ideal) a1 a2 a3 a4 a5 a6 a7 a8 a9 f1 f2 f3 f4 f5 f6 f7 f8) (bodyRun.sl.v8073 a1 a2 a3 a4 a5 a6 a7 a8 f1 f2 f3 f4 f5 f6 f7 f8)
    (bodyRun.sl.v8077 a10 f10) (bodyRun.sl.v8080 a11 f11) (bodyRun.sl.v8083 a0 f0) (ix2 r n) = outV a0 a1 a2 a3 a4 a5 a6 a7 a8 a9 a10 a11 (ix2 r n) := by
  rw [v8083_eq, pay1487_at, acc_at, v8073_at, v8077_at, v8080_at]
  rfl
theorem out_canon (r : Fin 256) (n : Fin 2048) : View.canon (bodyRun.sl.HS20_1 (F := Ideal) a0 a1 a2 a3 a4 a5 a6 a7 a8 a9 a10 a11 f0 f1 f2 f3 f4 f5 f6 f7 f8 f10 f11) (ix2 r n)
    = outV a0 a1 a2 a3 a4 a5 a6 a7 a8 a9 a10 a11 (ix2 r n) := by
  have e : (Rect.unit (s := S256x2048) ![0, 0] S256x2048.size inb_S256x2048_S256x2048_0_0).emb (ix2 r n) = ix2 r n := by idx_ext
  unfold bodyRun.sl.HS20_1
  exact (canon_head _ _ _ _ e).trans (out_at a0 a1 a2 a3 a4 a5 a6 a7 a8 a9 a10 a11 f0 f1 f2 f3 f4 f5 f6 f7 f8 f10 f11 r n)

/-! ## The two rows of scales -/

/-- The diagonal of a column laid over a square is the column. -/
theorem diag (v : Vec Ideal S128x1 .f32) (k : Fin 128) : k0_pay1488 v (ix2 (0 : Fin 1) k) = v (ix2 k (0 : Fin 1)) := by
  have h : k0_pay1488 v (ix2 (0 : Fin 1) k) = ∑ x : Fin 128, Scalar.select (IntOp.cmpi CmpIPredicate.eq (BitVec.ofNat 32 x.val) (BitVec.ofNat 32 k.val)) (v (ix2 x (0 : Fin 1))) (0 : EReal) := by
    pointwise [k0_pay1488]
  rw [h, Finset.sum_eq_single k]
  · simp [Scalar.select, IntOp.cmpi]
  · intro x _ hx
    have hne : BitVec.ofNat 32 x.val ≠ BitVec.ofNat 32 k.val := fun e => hx (Fin.ext (by
      have := congrArg BitVec.toNat e
      simp only [BitVec.toNat_ofNat] at this
      omega))
    have hb : (BitVec.ofNat 32 x.val == BitVec.ofNat 32 k.val) = false := beq_eq_false_iff_ne.mpr hne
    show (if BitVec.ofBool (BitVec.ofNat 32 x.val == BitVec.ofNat 32 k.val) = 1#1 then v (ix2 x (0 : Fin 1)) else 0) = 0
    rw [hb]
    exact if_neg (by decide)
  · exact fun hk => absurd (Finset.mem_univ _) hk
theorem pay1491_at (a b : FVec Ideal S1x128 .f32) (i : Fin 2) (k : Fin 128) : k0_pay1491 a b (ix2 i k) = if i.val < 1 then a (ix2 (0 : Fin 1) k) else b (ix2 (0 : Fin 1) k) := by
  have h : k0_pay1491 a b (ix2 i k) = if h : i.val < 1 then a (ix2 (⟨i.val, h⟩ : Fin 1) k) else b (ix2 (⟨i.val - 1, by omega⟩ : Fin 1) k) := by
    pointwise [k0_pay1491]
  rw [h]
  split
  · exact congrArg a (congrArg (fun t => ix2 t k) (Subsingleton.elim _ _))
  · exact congrArg b (congrArg (fun t => ix2 t k) (Subsingleton.elim _ _))
theorem pay1490_at (v : Vec Ideal S1x128x1 .f32) (k : Fin 128) : k0_pay1490 v (ix2 k (0 : Fin 1)) = v (ix3 (0 : Fin 1) k (0 : Fin 1)) := by
  pointwise [k0_pay1490]
theorem pay1492_eq (p : FVec Ideal S128x1 .f32) (q : Vec Ideal S1x128x1 .f32) : k0_pay1492 p q = k0_pay1491 (k0_pay1488 p) (k0_pay1488 (k0_pay1490 q)) := rfl
theorem pay1489_eq (v : Vec Ideal S128x1 .f32) : k0_pay1489 v = k0_pay1488 v := rfl
/-- The row of two images' row number `j`. -/
abbrev rowOf (i : S2x128.Idx) : Fin 256 := ⟨(i 0 : Fin 2).val * 128 + (i 1 : Fin 128).val, by
  have h0 : (i 0 : Fin 2).val < 2 := (i 0 : Fin 2).isLt
  have h1 : (i 1 : Fin 128).val < 128 := (i 1 : Fin 128).isLt
  omega⟩
/-- The first scales, a row for each image. -/
def s1V : Vec Ideal S2x128 .f32 := fun i => Net.s1 (at2 a1) (at1 a2) (at1 a3) (rowOf i)
/-- The second scales, a row for each image. -/
def s2V : Vec Ideal S2x128 .f32 := fun i => Net.s2 (at2 a1) (at1 a2) (at1 a3) (at2 a4) (at1 a5) (at1 a6) (at1 a7) (at1 a8) (rowOf i)
theorem rows_at (g : Fin 256 → EReal) (i : Fin 2) (k : Fin 128) : (if i.val < 1 then g (⟨k.val, by omega⟩ : Fin 256) else g (⟨128 + k.val, by omega⟩ : Fin 256)) = g (rowOf (ix2 i k)) := by
  split
  · exact congrArg g (Fin.ext (by show k.val = i.val * 128 + k.val; omega))
  · exact congrArg g (Fin.ext (by show 128 + k.val = i.val * 128 + k.val; omega))
theorem s1_pay (i : Fin 2) (k : Fin 128) : k0_pay1491 (bodyRun.sl.r_377 (F := Ideal) a1 a2 a3 f1 f2 f3) (bodyRun.sl.r_378 (F := Ideal) a1 a2 a3 f1 f2 f3) (ix2 i k) = s1V a1 a2 a3 (ix2 i k) := by
  unfold bodyRun.sl.r_377 bodyRun.sl.r_378
  rw [pay1491_at, pay1489_eq, diag, diag, v8091_at, v8101_at]
  exact rows_at (Net.s1 (at2 a1) (at1 a2) (at1 a3)) i k
theorem s2_pay (i : Fin 2) (k : Fin 128) : k0_pay1492 (bodyRun.sl.r_379 (F := Ideal) a1 a2 a3 a4 a5 a6 a7 a8 f1 f2 f3 f4 f5 f6 f7 f8) (bodyRun.sl.v8122 (F := Ideal) a1 a2 a3 a4 a5 a6 a7 a8 f1 f2 f3 f4 f5 f6 f7 f8) (ix2 i k) = s2V a1 a2 a3 a4 a5 a6 a7 a8 (ix2 i k) := by
  unfold bodyRun.sl.r_379
  rw [pay1492_eq, pay1491_at, diag, diag, pay1490_at, pay1490_at, v8111_at, v8122_at]
  exact rows_at (Net.s2 (at2 a1) (at1 a2) (at1 a3) (at2 a4) (at1 a5) (at1 a6) (at1 a7) (at1 a8)) i k
theorem mem_row1 (i : Fin 2) (k : Fin 128) : ix2 i (⟨k.val, by omega⟩ : Fin 8192) ∈ (Rect.unit (s := S2x8192) ![0, 0] S2x128.size inb_S2x8192_S2x128_0_0).set := by
  rw [Rect.mem_set_unit]
  refine Fin.forall_fin_two.mpr ⟨⟨?_, ?_⟩, ⟨?_, ?_⟩⟩
  · show 0 ≤ i.val; omega
  · show i.val < 0 + 2; omega
  · show 0 ≤ k.val; omega
  · show k.val < 0 + 128; omega
theorem mem_row2 (i : Fin 2) (k : Fin 128) : ix2 i (⟨128 + k.val, by omega⟩ : Fin 8192) ∈ (Rect.unit (s := S2x8192) ![0, 128] S2x128.size inb_S2x8192_S2x128_0_128).set := by
  rw [Rect.mem_set_unit]
  refine Fin.forall_fin_two.mpr ⟨⟨?_, ?_⟩, ⟨?_, ?_⟩⟩
  · show 0 ≤ i.val; omega
  · show i.val < 0 + 2; omega
  · show 128 ≤ 128 + k.val; omega
  · show 128 + k.val < 128 + 128; omega
theorem not_mem_row2 (i : Fin 2) (k : Fin 128) : ix2 i (⟨k.val, by omega⟩ : Fin 8192) ∉ (Rect.unit (s := S2x8192) ![0, 128] S2x128.size inb_S2x8192_S2x128_0_128).set := by
  intro h
  rw [Rect.mem_set_unit] at h
  have h1 : 128 ≤ k.val := (h 1).1
  omega
theorem emb_row1 (i : Fin 2) (k : Fin 128) : (Rect.unit (s := S2x8192) ![0, 0] S2x128.size inb_S2x8192_S2x128_0_0).emb (ix2 i k) = ix2 i (⟨k.val, by omega⟩ : Fin 8192) := by idx_ext
theorem emb_row2 (i : Fin 2) (k : Fin 128) : (Rect.unit (s := S2x8192) ![0, 128] S2x128.size inb_S2x8192_S2x128_0_128).emb (ix2 i k) = ix2 i (⟨128 + k.val, by omega⟩ : Fin 8192) := by idx_ext
theorem s2_canon (i : Fin 2) (k : Fin 128) : View.canon (bodyRun.sl.HS17_18 (F := Ideal) a1 a2 a3 a4 a5 a6 a7 a8 f1 f2 f3 f4 f5 f6 f7 f8) (ix2 i (⟨128 + k.val, by omega⟩ : Fin 8192)) = s2V a1 a2 a3 a4 a5 a6 a7 a8 (ix2 i k) := by
  unfold bodyRun.sl.HS17_18
  exact (canon_head _ _ _ _ (emb_row2 i k)).trans (s2_pay a1 a2 a3 a4 a5 a6 a7 a8 f1 f2 f3 f4 f5 f6 f7 f8 i k)
theorem s1_canon2 (i : Fin 2) (k : Fin 128) : View.canon (bodyRun.sl.HS17_18 (F := Ideal) a1 a2 a3 a4 a5 a6 a7 a8 f1 f2 f3 f4 f5 f6 f7 f8) (ix2 i (⟨k.val, by omega⟩ : Fin 8192)) = s1V a1 a2 a3 (ix2 i k) := by
  unfold bodyRun.sl.HS17_18
  exact (canon_skip _ _ _ _ (not_mem_row2 i k)).trans ((canon_head _ _ _ _ (emb_row1 i k)).trans (s1_pay a1 a2 a3 f1 f2 f3 i k))

/-! ## The five copies out -/

variable (f13 : Vec Ideal S256x2048 .fp8e4m3) (f14 : Vec Ideal S256x8192 .fp8e4m3) (f17 : Vec Ideal S2x8192 .f32) (f20 : Vec Ideal S256x2048 .bf16)

theorem q1_eq : bodyRun.sl.dma2938 (F := Ideal) a1 a2 a3 f1 f2 f3 f13 = q1V a1 a2 a3 := by
  have e : bodyRun.sl.dma2938 (F := Ideal) a1 a2 a3 f1 f2 f3 f13 = View.canon (bodyRun.sl.HS13_8 (F := Ideal) a1 a2 a3 f1 f2 f3) :=
    View.read_writes_eq_canon _ _ _ (View.cover_of_tiled _ S32x2048.size (by rfl))
  rw [e, q1L_eq]
  exact funext fun y => q1_canon a1 a2 a3 f1 f2 f3 y
theorem q2_eq : bodyRun.sl.dma2938_1 (F := Ideal) a1 a2 a3 a4 a5 a6 a7 a8 f1 f2 f3 f4 f5 f6 f7 f8 f14 = q2V a1 a2 a3 a4 a5 a6 a7 a8 := by
  have e : bodyRun.sl.dma2938_1 (F := Ideal) a1 a2 a3 a4 a5 a6 a7 a8 f1 f2 f3 f4 f5 f6 f7 f8 f14 = View.canon (bodyRun.sl.HS14_16 (F := Ideal) a1 a2 a3 a4 a5 a6 a7 a8 f1 f2 f3 f4 f5 f6 f7 f8) :=
    View.read_writes_eq_canon _ _ _ (View.cover_of_tiled _ S256x512.size (by rfl))
  rw [e]
  exact funext fun y => q2_canon a1 a2 a3 a4 a5 a6 a7 a8 f1 f2 f3 f4 f5 f6 f7 f8 y
theorem out_eq : bodyRun.sl.dma2938_2 (F := Ideal) a0 a1 a2 a3 a4 a5 a6 a7 a8 a9 a10 a11 f0 f1 f2 f3 f4 f5 f6 f7 f8 f10 f11 f20 = outV a0 a1 a2 a3 a4 a5 a6 a7 a8 a9 a10 a11 := by
  have e : bodyRun.sl.dma2938_2 (F := Ideal) a0 a1 a2 a3 a4 a5 a6 a7 a8 a9 a10 a11 f0 f1 f2 f3 f4 f5 f6 f7 f8 f10 f11 f20 = View.canon (bodyRun.sl.HS20_1 (F := Ideal) a0 a1 a2 a3 a4 a5 a6 a7 a8 a9 a10 a11 f0 f1 f2 f3 f4 f5 f6 f7 f8 f10 f11) :=
    View.read_writes_eq_canon _ _ _ (View.cover_of_tiled _ S256x2048.size (by rfl))
  rw [e]
  funext y
  obtain ⟨r, n, rfl⟩ : ∃ (r : Fin 256) (n : Fin 2048), y = ix2 r n := ⟨y 0, y 1, by idx_ext⟩
  exact out_canon a0 a1 a2 a3 a4 a5 a6 a7 a8 a9 a10 a11 f0 f1 f2 f3 f4 f5 f6 f7 f8 f10 f11 r n
theorem s1_eq : bodyRun.sl.dma2938_3 (F := Ideal) a1 a2 a3 a4 a5 a6 a7 a8 f1 f2 f3 f4 f5 f6 f7 f8 f17 = s1V a1 a2 a3 := by
  funext y
  obtain ⟨i, k, rfl⟩ : ∃ (i : Fin 2) (k : Fin 128), y = ix2 i k := ⟨y 0, y 1, by idx_ext⟩
  have q := s1_canon2 a1 a2 a3 a4 a5 a6 a7 a8 f1 f2 f3 f4 f5 f6 f7 f8 i k
  have hm : ∃ p ∈ bodyRun.sl.HS17_18 (F := Ideal) a1 a2 a3 a4 a5 a6 a7 a8 f1 f2 f3 f4 f5 f6 f7 f8, ix2 i (⟨k.val, by omega⟩ : Fin 8192) ∈ p.1.set := ⟨_, List.mem_cons_of_mem _ List.mem_cons_self, mem_row1 i k⟩
  unfold bodyRun.sl.dma2938_3
  generalize bodyRun.sl.HS17_18 (F := Ideal) a1 a2 a3 a4 a5 a6 a7 a8 f1 f2 f3 f4 f5 f6 f7 f8 = L at q hm ⊢
  refine Eq.trans ?_ ((View.read_writes_apply_eq_canon (Memref.whole cc0_scratch17).view f17 (ix2 i (⟨k.val, by omega⟩ : Fin 8192)) L hm).trans q)
  exact congrArg (View.read (Elt Ideal) (Memref.whole cc0_scratch17).view ((Memref.whole cc0_scratch17).view.writes (Elt Ideal) f17 L)) (emb_row1 i k)
theorem s2_eq : bodyRun.sl.dma2938_4 (F := Ideal) a1 a2 a3 a4 a5 a6 a7 a8 f1 f2 f3 f4 f5 f6 f7 f8 f17 = s2V a1 a2 a3 a4 a5 a6 a7 a8 := by
  funext y
  obtain ⟨i, k, rfl⟩ : ∃ (i : Fin 2) (k : Fin 128), y = ix2 i k := ⟨y 0, y 1, by idx_ext⟩
  have q := s2_canon a1 a2 a3 a4 a5 a6 a7 a8 f1 f2 f3 f4 f5 f6 f7 f8 i k
  have hm : ∃ p ∈ bodyRun.sl.HS17_18 (F := Ideal) a1 a2 a3 a4 a5 a6 a7 a8 f1 f2 f3 f4 f5 f6 f7 f8, ix2 i (⟨128 + k.val, by omega⟩ : Fin 8192) ∈ p.1.set := ⟨_, List.mem_cons_self, mem_row2 i k⟩
  unfold bodyRun.sl.dma2938_4
  generalize bodyRun.sl.HS17_18 (F := Ideal) a1 a2 a3 a4 a5 a6 a7 a8 f1 f2 f3 f4 f5 f6 f7 f8 = L at q hm ⊢
  refine Eq.trans ?_ ((View.read_writes_apply_eq_canon (Memref.whole cc0_scratch17).view f17 (ix2 i (⟨128 + k.val, by omega⟩ : Fin 8192)) L hm).trans q)
  exact congrArg (View.read (Elt Ideal) (Memref.whole cc0_scratch17).view ((Memref.whole cc0_scratch17).view.writes (Elt Ideal) f17 L)) (emb_row2 i k)

variable (m : (ℓ : Loc nD τ sig) → Buf (Elt Ideal) ℓ) (c : Dev nD)

/-- The five result arrays, read: whatever the buffers held before. -/
theorem out_of_ok (w0 : main_v9_0.ty.Contents (Elt Ideal)) (w1 : main_v9_1.ty.Contents (Elt Ideal)) (w2 : main_v9_2.ty.Contents (Elt Ideal)) (w3 : main_v9_3.ty.Contents (Elt Ideal)) (w4 : main_v9_4.ty.Contents (Elt Ideal))
    (h : OutOK m c w0 w1 w2 w3 w4) :
    w0 = outV (V m c main_v0) (V m c main_arg1) (V m c main_v1) (V m c main_v2) (V m c main_arg4) (V m c main_v3) (V m c main_v4) (V m c main_v5) (V m c main_v6) (V m c main_arg9) (V m c main_v7) (V m c main_v8)
      ∧ w1 = q1V (V m c main_arg1) (V m c main_v1) (V m c main_v2)
      ∧ w2 = s1V (V m c main_arg1) (V m c main_v1) (V m c main_v2)
      ∧ w3 = q2V (V m c main_arg1) (V m c main_v1) (V m c main_v2) (V m c main_arg4) (V m c main_v3) (V m c main_v4) (V m c main_v5) (V m c main_v6)
      ∧ w4 = s2V (V m c main_arg1) (V m c main_v1) (V m c main_v2) (V m c main_arg4) (V m c main_v3) (V m c main_v4) (V m c main_v5) (V m c main_v6) := by
  obtain ⟨f0, f1, f2, f3, f4, f5, f6, f7, f8, f9, f10, f11, f12, f13, f14, f15, f16, f17, f18, f19, f20, g0, g1, g2, g3, g4, e⟩ := h
  have e0 := Prod.mk.inj e
  have e1 := Prod.mk.inj e0.2
  have e2 := Prod.mk.inj e1.2
  have e3 := Prod.mk.inj e2.2
  refine ⟨e0.1.trans ?_, e1.1.trans ?_, e2.1.trans ?_, e3.1.trans ?_, e3.2.trans ?_⟩
  · exact (View.write_whole_univ (Val := Elt Ideal) main_v9_0 g0 _).trans (out_eq _ _ _ _ _ _ _ _ _ _ _ _ f0 f1 f2 f3 f4 f5 f6 f7 f8 f10 f11 f20)
  · exact (View.write_whole_univ (Val := Elt Ideal) main_v9_1 g1 _).trans (q1_eq _ _ _ f1 f2 f3 f13)
  · exact (View.write_whole_univ (Val := Elt Ideal) main_v9_2 g2 _).trans (s1_eq _ _ _ _ _ _ _ _ f1 f2 f3 f4 f5 f6 f7 f8 f17)
  · exact (View.write_whole_univ (Val := Elt Ideal) main_v9_3 g3 _).trans (q2_eq _ _ _ _ _ _ _ _ f1 f2 f3 f4 f5 f6 f7 f8 f14)
  · exact (View.write_whole_univ (Val := Elt Ideal) main_v9_4 g4 _).trans (s2_eq _ _ _ _ _ _ _ _ f1 f2 f3 f4 f5 f6 f7 f8 f17)

end Cert.KernelIdeal.Read

end
-- ==== Proof.ReferenceIdealBlocks.lean ====
module

public import proofs.«01_k».proof.Proof.Gen.ReferenceIdeal.Frame
public import Idealize.ShloMosaic.Lib.Pipeline.Value

@[expose] public section

noncomputable section

/-! The reference run with each result array named by its blocks. -/

namespace Cert.ReferenceIdeal.Blocks

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S256x2048.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S256x2048.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S2x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 15).cut (grid0.coords t) ((dats m 0 c).after 15 t) = _
  rw [after0_15]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S256x8192.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 16).cut (grid0.coords t) ((dats m 0 c).after 16 t) = _
  rw [after0_16]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S2x128.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v9_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v9_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v9_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v9_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v9_4) = (dats m 0 c).arrAt 16 cfg0.N :=
  (h c).1 16

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 12 cfg0.N
      ∧ r.2.mem ((c : Thread nD τ).loc main_v9_1) = (dats m 0 c).arrAt 13 cfg0.N
      ∧ r.2.mem ((c : Thread nD τ).loc main_v9_2) = (dats m 0 c).arrAt 14 cfg0.N
      ∧ r.2.mem ((c : Thread nD τ).loc main_v9_3) = (dats m 0 c).arrAt 15 cfg0.N
      ∧ r.2.mem ((c : Thread nD τ).loc main_v9_4) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post12 m r h c,
      post13 m r h c,
      post14 m r h c,
      post15 m r h c,
      post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.ReferenceIdeal.Blocks

end
-- ==== Proof.ReferenceIdealPays.lean ====
module

public import proofs.«01_k».proof.Proof.Gen.ReferenceIdeal.Frame
public import proofs.«01_k».proof.Proof.Net

@[expose] public section

noncomputable section

namespace Cert.ReferenceIdeal.Read

open Cert.ReferenceIdeal Cert.ReferenceIdeal.Gen
open Idealize.ShloMosaic Idealize.ShloMosaic.TcCoe

/-! The reference's operations, read at one element as the block's mathematics. -/

/-- An array as a function of its two coordinates. -/
abbrev at2 {n k : ℕ} {e : EltTy} (X : (⟨2, ![n, k]⟩ : Shape).Idx → Elt Ideal e) (r : Fin n) (x : Fin k) : Elt Ideal e := X (ix2 r x)
/-- An array of one row as a function of its column. -/
abbrev at1 {k : ℕ} {e : EltTy} (X : (⟨2, ![1, k]⟩ : Shape).Idx → Elt Ideal e) (x : Fin k) : Elt Ideal e := X (ix2 (0 : Fin 1) x)

variable (y : Vec Ideal S256x2048 .f32) (g b : Vec Ideal S1x2048 .f32) (w : Vec Ideal S2048x8192 .fp8e4m3) (u v gg gb : Vec Ideal S1x8192 .f32)
  (w2 : Vec Ideal S8192x2048 .fp8e4m3) (u2 v2 : Vec Ideal S1x2048 .f32) (x : Vec Ideal S256x2048 .bf16)

theorem z_at (r : Fin 256) (k : Fin 2048) : k0_pay6 y g b (ix2 r k) = Net.zF (at2 y r) (at1 g) (at1 b) k := by
  pointwise [k0_pay6]
  rfl
/-- The exponents of a column of row maxima over 448. -/
theorem exp_of (T : FVec Ideal S256x1 .f32) (r : Fin 256) : select (ori (cmpf .oeq T (broadcast S256x1 (Scalar.ofBits .f32 0x00000000#32)))
    (xori (cmpf .olt (absf T) (broadcast S256x1 (Scalar.ofBits .f32 0x7F800000#32))) (constantI S256x1 1 1#1))) (broadcast S256x1 (Scalar.ofBits .f32 0x00000000#32))
    (addf (floor (divf (log T) (log (broadcast S256x1 (Scalar.ofBits .f32 0x40000000#32))))) (broadcast S256x1 (Scalar.ofBits .f32 0x3F800000#32))) (ix2 r (0 : Fin 1)) = Net.expF (T (ix2 r (0 : Fin 1))) := by
  pointwise []
  rfl
theorem col_at (T : FVec Ideal S256 .f32) (r : Fin 256) : shapeCast S256x1 T shapeCasts_S256_S256x1 (ix2 r (0 : Fin 1)) = T (ix1 r) := by
  pointwise []
theorem max_at (Z : FVec Ideal S256x2048 .f32) (r : Fin 256) : multiReduction .maximumf [1] S256 (absf Z) 0xFF800000#32 reduces_S256x2048_S256 (.inl rfl) rfl (ix1 r) = Net.amaxF fun k => Z (ix2 r k) := by
  pointwise []
  rfl
theorem max_at' (Z : FVec Ideal S256x8192 .f32) (r : Fin 256) : multiReduction .maximumf [1] S256 (absf Z) 0xFF800000#32 reduces_S256x8192_S256 (.inl rfl) rfl (ix1 r) = Net.amaxF fun k => Z (ix2 r k) := by
  pointwise []
  rfl
theorem t_of (T : FVec Ideal S256 .f32) (r : Fin 256) : mulf (shapeCast S256x1 T shapeCasts_S256_S256x1) (broadcast S256x1 (Scalar.ofBits .f32 0x3B124925#32)) (ix2 r (0 : Fin 1)) = T (ix1 r) * Ideal.ofBits FTy.f32 991054117#32 := by
  pointwise []
theorem t_at (r : Fin 256) : k0_pay7 y g b (ix2 r (0 : Fin 1)) = Net.amaxF (Net.zF (at2 y r) (at1 g) (at1 b)) * Ideal.ofBits FTy.f32 991054117#32 := by
  refine (t_of (multiReduction .maximumf [1] S256 (absf (k0_pay6 y g b)) 0xFF800000#32 reduces_S256x2048_S256 (.inl rfl) rfl) r).trans ?_
  rw [max_at]
  simp only [z_at]
/-- The first exponents. -/
abbrev E1 : FVec Ideal S256x1 .f32 := k0_pay11 (k0_pay8 y g b) (k0_pay9 y g b) (k0_pay10 y g b) (constantI S256x1 1 1#1)
theorem e1_at (r : Fin 256) : E1 y g b (ix2 r (0 : Fin 1)) = Net.e1 (at2 y) (at1 g) (at1 b) r := by
  refine (exp_of (k0_pay7 y g b) r).trans ?_
  rw [t_at]
  rfl
/-- The first codes. -/
abbrev Q1 : FVec Ideal S256x2048 .fp8e4m3 := k0_pay12 (k0_pay6 y g b) (k0_pay8 y g b) (k0_pay9 y g b) (k0_pay10 y g b) (constantI S256x1 1 1#1)
theorem code_of (z : FVec Ideal S256x2048 .f32) (a : FVec Ideal S256x1 .f32) (p q c : IVec S256x1 1) (r : Fin 256) (k : Fin 2048) :
    k0_pay12 z a p q c (ix2 r k) = Net.codeF (z (ix2 r k)) (Net.invF (k0_pay11 a p q c (ix2 r (0 : Fin 1)))) := by
  pointwise [k0_pay12]
  rfl
theorem q1_at (r : Fin 256) (k : Fin 2048) : Q1 y g b (ix2 r k) = Net.q1 (at2 y) (at1 g) (at1 b) r k := by
  refine (code_of _ _ _ _ _ r k).trans ?_
  rw [z_at]; exact congrArg (fun e => Net.codeF _ (Net.invF e)) (e1_at y g b r)
theorem sc13_of (a : FVec Ideal S256x1 .f32) (p q c : IVec S256x1 1) (r : Fin 256) : k0_pay13 a p q c (ix2 r (0 : Fin 1)) = Net.scF (k0_pay11 a p q c (ix2 r (0 : Fin 1))) := by
  pointwise [k0_pay13]
  rfl
/-- The first scales. -/
abbrev S1 : FVec Ideal S256x1 .f32 := k0_pay13 (k0_pay8 y g b) (k0_pay9 y g b) (k0_pay10 y g b) (constantI S256x1 1 1#1)
theorem s1_at (r : Fin 256) : S1 y g b (ix2 r (0 : Fin 1)) = Net.s1 (at2 y) (at1 g) (at1 b) r :=
  (sc13_of _ _ _ _ r).trans (congrArg Net.scF (e1_at y g b r))

/-- The hidden values, image by image. -/
abbrev H : FVec Ideal S2x128x8192 .f32 := k0_pay14 (k0_pay6 y g b) (k0_pay8 y g b) (k0_pay9 y g b) (k0_pay10 y g b) (constantI S256x1 1 1#1) w u v
theorem hid_of (z : FVec Ideal S256x2048 .f32) (a : FVec Ideal S256x1 .f32) (p q c : IVec S256x1 1) (i : Fin 2) (j : Fin 128) (k : Fin 8192) :
    k0_pay14 z a p q c w u v (ix3 i j k) = Net.geluF ((∑ x, k0_pay12 z a p q c (ix2 (⟨i.val * 128 + j.val, by omega⟩ : Fin 256) x) * w (ix2 x k))
      * k0_pay13 a p q c (ix2 (⟨i.val * 128 + j.val, by omega⟩ : Fin 256) (0 : Fin 1)) * u (ix2 (0 : Fin 1) k) + v (ix2 (0 : Fin 1) k)) := by
  pointwise [k0_pay14]
  rfl
abbrev hidN : Fin 256 → Fin 8192 → EReal := Net.hid (at2 y) (at1 g) (at1 b) (at2 w) (at1 u) (at1 v)
theorem h_at (i : Fin 2) (j : Fin 128) (k : Fin 8192) : H y g b w u v (ix3 i j k) = hidN y g b w u v ⟨i.val * 128 + j.val, by omega⟩ k := by
  refine (hid_of w u v _ _ _ _ _ i j k).trans ?_
  have e1 := fun x => q1_at y g b ⟨i.val * 128 + j.val, by omega⟩ x
  have e2 := s1_at y g b ⟨i.val * 128 + j.val, by omega⟩
  simp only [Q1, S1] at e1 e2
  simp only [e1]
  rw [e2]
  rfl
/-- The norms. -/
abbrev N : FVec Ideal S2x8192 .f32 := k0_pay15 (k0_pay6 y g b) (k0_pay8 y g b) (k0_pay9 y g b) (k0_pay10 y g b) (constantI S256x1 1 1#1) w u v
theorem n_at (i : Fin 2) (k : Fin 8192) : N y g b w u v (ix2 i k) = Ideal.sqrt (Net.sqF (hidN y g b w u v) i k) := by
  have h := fun j => h_at y g b w u v i j k
  simp only [H] at h
  pointwise [N, k0_pay15]
  simp only [h]
  rfl
/-- The mean norms. -/
abbrev M : FVec Ideal S2x1 .f32 := k0_pay16 (k0_pay6 y g b) (k0_pay8 y g b) (k0_pay9 y g b) (k0_pay10 y g b) (constantI S256x1 1 1#1) w u v
theorem m_at (i : Fin 2) : M y g b w u v (ix2 i (0 : Fin 1)) = Ideal.div (∑ x, Ideal.sqrt (Net.sqF (hidN y g b w u v) i x)) (Ideal.ofBits FTy.f32 1174405120#32) := by
  have h := fun k => n_at y g b w u v i k
  simp only [N] at h
  pointwise [M, k0_pay16]
  simp only [h]
/-- The normalised hidden values. -/
abbrev hnN : Fin 256 → Fin 8192 → EReal := Net.hn (at2 y) (at1 g) (at1 b) (at2 w) (at1 u) (at1 v) (at1 gg) (at1 gb)
theorem grn_of (a : FVec Ideal S2x128x8192 .f32) (n : FVec Ideal S2x8192 .f32) (m : FVec Ideal S2x1 .f32) (r : Fin 256) (k : Fin 8192) :
    k0_pay17 a n m gg gb (ix2 r k) = gg (ix2 (0 : Fin 1) k) * (a (ix3 (⟨r.val / 128, by omega⟩ : Fin 2) (⟨r.val % 128, by omega⟩ : Fin 128) k)
      * Ideal.div (n (ix2 (⟨r.val / 128, by omega⟩ : Fin 2) k)) (m (ix2 (⟨r.val / 128, by omega⟩ : Fin 2) (0 : Fin 1)) + Ideal.ofBits FTy.f32 897988541#32)) + gb (ix2 (0 : Fin 1) k)
      + a (ix3 (⟨r.val / 128, by omega⟩ : Fin 2) (⟨r.val % 128, by omega⟩ : Fin 128) k) := by
  pointwise [k0_pay17]
theorem hn_at (r : Fin 256) (k : Fin 8192) : k0_pay17 (H y g b w u v) (N y g b w u v) (M y g b w u v) gg gb (ix2 r k) = hnN y g b w u v gg gb r k := by
  rw [grn_of, h_at, n_at, m_at]
  have e : (⟨(⟨r.val / 128, by omega⟩ : Fin 2).val * 128 + (⟨r.val % 128, by omega⟩ : Fin 128).val, by show r.val / 128 * 128 + r.val % 128 < 256; omega⟩ : Fin 256) = r :=
    Fin.ext (by show r.val / 128 * 128 + r.val % 128 = r.val; omega)
  rw [e]
  rfl
/-- The second exponents. -/
theorem e2_of (a : FVec Ideal S2x128x8192 .f32) (n : FVec Ideal S2x8192 .f32) (m : FVec Ideal S2x1 .f32) (r : Fin 256) :
    k0_pay18 a n m gg gb (ix2 r (0 : Fin 1)) = Net.rowE fun k => k0_pay17 a n m gg gb (ix2 r k) := by
  refine (exp_of (mulf (shapeCast S256x1 (multiReduction .maximumf [1] S256 (absf (k0_pay17 a n m gg gb)) 0xFF800000#32 reduces_S256x8192_S256 (.inl rfl) rfl) shapeCasts_S256_S256x1) (broadcast S256x1 (Scalar.ofBits .f32 0x3B124925#32))) r).trans ?_
  rw [t_of, max_at']
  rfl
theorem e2_at (r : Fin 256) : k0_pay18 (H y g b w u v) (N y g b w u v) (M y g b w u v) gg gb (ix2 r (0 : Fin 1))
    = Net.e2 (at2 y) (at1 g) (at1 b) (at2 w) (at1 u) (at1 v) (at1 gg) (at1 gb) r := by
  rw [e2_of]; simp only [hn_at]; rfl
theorem sc_of' (Z : FVec Ideal S256x8192 .f32) (E : FVec Ideal S256x1 .f32) (r : Fin 256) (k : Fin 8192) :
    mulf Z (broadcastTo S256x8192 (exp2 (subf (broadcast S256x1 (Scalar.ofBits .f32 0x00000000#32)) E)) broadcasts_S256x1_S256x8192) (ix2 r k) = Z (ix2 r k) * Net.invF (E (ix2 r (0 : Fin 1))) := by
  pointwise []
  rfl
theorem sc_of (a : FVec Ideal S2x128x8192 .f32) (n : FVec Ideal S2x8192 .f32) (m : FVec Ideal S2x1 .f32) (r : Fin 256) (k : Fin 8192) :
    k0_pay19 a n m gg gb (ix2 r k) = k0_pay17 a n m gg gb (ix2 r k) * Net.invF (k0_pay18 a n m gg gb (ix2 r (0 : Fin 1))) :=
  sc_of' (k0_pay17 a n m gg gb) (k0_pay18 a n m gg gb) r k
theorem clip_of (a : FVec Ideal S256x8192 .f32) (r : Fin 256) (k : Fin 8192) :
    k0_pay1 a (Scalar.ofBits .f32 0xC3E00000#32) (ix2 r k) = min (Ideal.ofBits FTy.f32 1138753536#32) (max (Ideal.ofBits FTy.f32 3286237184#32) (a (ix2 r k))) := by
  pointwise [k0_pay1]
theorem q2_at (r : Fin 256) (k : Fin 8192) : k0_pay1 (k0_pay19 (H y g b w u v) (N y g b w u v) (M y g b w u v) gg gb) (Scalar.ofBits .f32 0xC3E00000#32) (ix2 r k)
    = Net.q2 (at2 y) (at1 g) (at1 b) (at2 w) (at1 u) (at1 v) (at1 gg) (at1 gb) r k := by
  rw [clip_of, sc_of, hn_at, e2_at]; rfl
theorem out_of (e : FVec Ideal S256x1 .f32) (a : FVec Ideal S256x8192 .f32) (r : Fin 256) (n : Fin 2048) :
    k0_pay3 e a (Scalar.ofBits .f32 0xC3E00000#32) w2 u2 v2 x (ix2 r n)
      = x (ix2 r n) + ((∑ k, k0_pay1 a (Scalar.ofBits .f32 0xC3E00000#32) (ix2 r k) * w2 (ix2 k n)) * Net.scF (e (ix2 r (0 : Fin 1))) * u2 (ix2 (0 : Fin 1) n) + v2 (ix2 (0 : Fin 1) n)) := by
  pointwise [k0_pay3, k0_pay2]
  rfl
theorem out_at (r : Fin 256) (n : Fin 2048) :
    k0_pay3 (k0_pay18 (H y g b w u v) (N y g b w u v) (M y g b w u v) gg gb) (k0_pay19 (H y g b w u v) (N y g b w u v) (M y g b w u v) gg gb) (Scalar.ofBits .f32 0xC3E00000#32) w2 u2 v2 x (ix2 r n)
      = x (ix2 r n) + Net.mF (at2 y) (at1 g) (at1 b) (at2 w) (at1 u) (at1 v) (at1 gg) (at1 gb) (at2 w2) (at1 u2) (at1 v2) r n := by
  rw [out_of, e2_at]
  simp only [q2_at]
  rfl
theorem sc1_at (i : Fin 2) (j : Fin 128) : k0_pay4 (S1 y g b) (ix2 i j) = Net.s1 (at2 y) (at1 g) (at1 b) ⟨i.val * 128 + j.val, by omega⟩ := by
  have h : k0_pay4 (S1 y g b) (ix2 i j) = S1 y g b (ix2 (⟨i.val * 128 + j.val, by omega⟩ : Fin 256) (0 : Fin 1)) := by
    generalize S1 y g b = s
    pointwise [k0_pay4]
  rw [h, s1_at]
theorem sc2_at (i : Fin 2) (j : Fin 128) : k0_pay5 (k0_pay18 (H y g b w u v) (N y g b w u v) (M y g b w u v) gg gb) (ix2 i j)
    = Net.s2 (at2 y) (at1 g) (at1 b) (at2 w) (at1 u) (at1 v) (at1 gg) (at1 gb) ⟨i.val * 128 + j.val, by omega⟩ := by
  have h : ∀ e : FVec Ideal S256x1 .f32, k0_pay5 e (ix2 i j) = Net.scF (e (ix2 (⟨i.val * 128 + j.val, by omega⟩ : Fin 256) (0 : Fin 1))) := fun e => by
    pointwise [k0_pay5, k0_pay2]
    rfl
  rw [h, e2_at]; rfl

end Cert.ReferenceIdeal.Read

end
-- ==== Proof.ReferenceIdealOut.lean ====
module

public import proofs.«01_k».proof.Proof.ReferenceIdealBlocks
public import proofs.«01_k».proof.Proof.ReferenceIdealPays
public import Idealize.ShloMosaic.Lib.Pipeline.ValueKit.Point

@[expose] public section

noncomputable section

namespace Cert.ReferenceIdeal.Read

open Cert.ReferenceIdeal Cert.ReferenceIdeal.Gen
open Idealize.ShloMosaic Idealize.ShloMosaic.TcCoe
open Idealize.ShloMosaic.Pipeline (Dat)

/-! The reference's five result arrays, as whole-array functions of its arguments. -/

variable (m : (ℓ : Loc nD τ sig) → Buf (Elt Ideal) ℓ) (c : Dev nD)

theorem blk0 (t : Fin cfg0.N) : iblk m c 0 t = V m c main_v0 := by have h : win0_0.index t = fun _ => 0 := rfl; funext y; blk_ext [iblk, h]
theorem blk1 (t : Fin cfg0.N) : iblk m c 1 t = V m c main_arg1 := by have h : win0_1.index t = fun _ => 0 := rfl; funext y; blk_ext [iblk, h]
theorem blk2 (t : Fin cfg0.N) : iblk m c 2 t = V m c main_v1 := by have h : win0_2.index t = fun _ => 0 := rfl; funext y; blk_ext [iblk, h]
theorem blk3 (t : Fin cfg0.N) : iblk m c 3 t = V m c main_v2 := by have h : win0_3.index t = fun _ => 0 := rfl; funext y; blk_ext [iblk, h]
theorem blk4 (t : Fin cfg0.N) : iblk m c 4 t = V m c main_arg4 := by have h : win0_4.index t = fun _ => 0 := rfl; funext y; blk_ext [iblk, h]
theorem blk5 (t : Fin cfg0.N) : iblk m c 5 t = V m c main_v3 := by have h : win0_5.index t = fun _ => 0 := rfl; funext y; blk_ext [iblk, h]
theorem blk6 (t : Fin cfg0.N) : iblk m c 6 t = V m c main_v4 := by have h : win0_6.index t = fun _ => 0 := rfl; funext y; blk_ext [iblk, h]
theorem blk7 (t : Fin cfg0.N) : iblk m c 7 t = V m c main_v5 := by have h : win0_7.index t = fun _ => 0 := rfl; funext y; blk_ext [iblk, h]
theorem blk8 (t : Fin cfg0.N) : iblk m c 8 t = V m c main_v6 := by have h : win0_8.index t = fun _ => 0 := rfl; funext y; blk_ext [iblk, h]
theorem blk9 (t : Fin cfg0.N) : iblk m c 9 t = V m c main_arg9 := by have h : win0_9.index t = fun _ => 0 := rfl; funext y; blk_ext [iblk, h]
theorem blk10 (t : Fin cfg0.N) : iblk m c 10 t = V m c main_v7 := by have h : win0_10.index t = fun _ => 0 := rfl; funext y; blk_ext [iblk, h]
theorem blk11 (t : Fin cfg0.N) : iblk m c 11 t = V m c main_v8 := by have h : win0_11.index t = fun _ => 0 := rfl; funext y; blk_ext [iblk, h]

/-! Loads of whole windows. -/

theorem ld0 {e : EltTy} (X : Vec Ideal S256x2048 e) : View.ld X r0_0 = X := funext fun j => congrArg X (by idx_ext)
theorem ld1 {e : EltTy} (X : Vec Ideal S1x2048 e) : View.ld X r0_1 = X := funext fun j => congrArg X (by idx_ext)
theorem ld2 {e : EltTy} (X : Vec Ideal S2048x8192 e) : View.ld X r0_2 = X := funext fun j => congrArg X (by idx_ext)
theorem ld3 {e : EltTy} (X : Vec Ideal S1x8192 e) : View.ld X r0_3 = X := funext fun j => congrArg X (by idx_ext)
theorem ld4 {e : EltTy} (X : Vec Ideal S8192x2048 e) : View.ld X r0_4 = X := funext fun j => congrArg X (by idx_ext)

variable (x : Vec Ideal S256x2048 .bf16) (y : Vec Ideal S256x2048 .f32) (g b : Vec Ideal S1x2048 .f32) (w : Vec Ideal S2048x8192 .fp8e4m3) (u v gg gb : Vec Ideal S1x8192 .f32)
    (w2 : Vec Ideal S8192x2048 .fp8e4m3) (u2 v2 : Vec Ideal S1x2048 .f32)

/-- The output: the input plus the scaled and shifted second product. -/
def outV : Vec Ideal S256x2048 .bf16 := fun i =>
  x i + Net.mF (at2 y) (at1 g) (at1 b) (at2 w) (at1 u) (at1 v) (at1 gg) (at1 gb) (at2 w2) (at1 u2) (at1 v2) (i 0 : Fin 256) (i 1 : Fin 2048)
/-- The first codes. -/
def q1V : Vec Ideal S256x2048 .fp8e4m3 := fun i => Net.q1 (at2 y) (at1 g) (at1 b) (i 0 : Fin 256) (i 1 : Fin 2048)
/-- The row of two images' row number `j`. -/
abbrev rowOf (i : S2x128.Idx) : Fin 256 := ⟨(i 0 : Fin 2).val * 128 + (i 1 : Fin 128).val, by
  have h0 : (i 0 : Fin 2).val < 2 := (i 0 : Fin 2).isLt
  have h1 : (i 1 : Fin 128).val < 128 := (i 1 : Fin 128).isLt
  omega⟩
/-- The first scales. -/
def s1V : Vec Ideal S2x128 .f32 := fun i => Net.s1 (at2 y) (at1 g) (at1 b) (rowOf i)
/-- The second codes. -/
def q2V : Vec Ideal S256x8192 .fp8e4m3 := fun i =>
  Net.q2 (at2 y) (at1 g) (at1 b) (at2 w) (at1 u) (at1 v) (at1 gg) (at1 gb) (i 0 : Fin 256) (i 1 : Fin 8192)
/-- The second scales. -/
def s2V : Vec Ideal S2x128 .f32 := fun i =>
  Net.s2 (at2 y) (at1 g) (at1 b) (at2 w) (at1 u) (at1 v) (at1 gg) (at1 gb) (rowOf i)

/-- Result 0 after the run. -/
theorem final12 : (dats m 0 c).arrAt 12 cfg0.N = outV (V m c main_v0) (V m c main_arg1) (V m c main_v1) (V m c main_v2) (V m c main_arg4) (V m c main_v3) (V m c main_v4) (V m c main_v5) (V m c main_v6) (V m c main_arg9) (V m c main_v7) (V m c main_v8) := by
  refine (dats m 0 c).arrAt_eq_of_covers 12 _ (by decide +kernel) fun t hf y => ?_
  have h : win0_12.index t = fun _ => 0 := rfl
  blk_simp
  rw [after0_12]
  frame_out
  rw [blk0, blk1, blk2, blk3, blk4, blk5, blk6, blk7, blk8, blk9, blk10, blk11]
  obtain ⟨r, n, rfl⟩ : ∃ (r : Fin 256) (n : Fin 2048), y = ix2 r n := ⟨y 0, y 1, by idx_ext⟩
  have e : ((cfg0.win 12).blk t).view.emb (ix2 r n) = ix2 r n := by blk_ext [h]
  rw [e]
  refine (out_at _ _ _ _ _ _ _ _ _ _ _ _ r n).trans ?_
  simp only [ld0, ld1, ld2, ld3, ld4]
  rfl

/-- Result 1 after the run. -/
theorem final13 : (dats m 0 c).arrAt 13 cfg0.N = q1V (V m c main_arg1) (V m c main_v1) (V m c main_v2) := by
  refine (dats m 0 c).arrAt_eq_of_covers 13 _ (by decide +kernel) fun t hf y => ?_
  have h : win0_13.index t = fun _ => 0 := rfl
  blk_simp
  rw [after0_13]
  frame_out
  rw [blk1, blk2, blk3]
  obtain ⟨r, n, rfl⟩ : ∃ (r : Fin 256) (n : Fin 2048), y = ix2 r n := ⟨y 0, y 1, by idx_ext⟩
  have e : ((cfg0.win 13).blk t).view.emb (ix2 r n) = ix2 r n := by blk_ext [h]
  rw [e]
  refine (q1_at _ _ _ r n).trans ?_
  simp only [ld0, ld1, ld2, ld3, ld4]
  rfl

/-- Result 2 after the run. -/
theorem final14 : (dats m 0 c).arrAt 14 cfg0.N = s1V (V m c main_arg1) (V m c main_v1) (V m c main_v2) := by
  refine (dats m 0 c).arrAt_eq_of_covers 14 _ (by decide +kernel) fun t hf y => ?_
  have h : win0_14.index t = fun _ => 0 := rfl
  blk_simp
  rw [after0_14]
  frame_out
  rw [blk1, blk2, blk3]
  obtain ⟨r, n, rfl⟩ : ∃ (r : Fin 2) (n : Fin 128), y = ix2 r n := ⟨y 0, y 1, by idx_ext⟩
  have e : ((cfg0.win 14).blk t).view.emb (ix2 r n) = ix2 r n := by blk_ext [h]
  rw [e]
  refine (sc1_at _ _ _ r n).trans ?_
  simp only [ld0, ld1, ld2, ld3, ld4]
  rfl

/-- Result 3 after the run. -/
theorem final15 : (dats m 0 c).arrAt 15 cfg0.N = q2V (V m c main_arg1) (V m c main_v1) (V m c main_v2) (V m c main_arg4) (V m c main_v3) (V m c main_v4) (V m c main_v5) (V m c main_v6) := by
  refine (dats m 0 c).arrAt_eq_of_covers 15 _ (by decide +kernel) fun t hf y => ?_
  have h : win0_15.index t = fun _ => 0 := rfl
  blk_simp
  rw [after0_15]
  frame_out
  rw [blk1, blk2, blk3, blk4, blk5, blk6, blk7, blk8]
  obtain ⟨r, n, rfl⟩ : ∃ (r : Fin 256) (n : Fin 8192), y = ix2 r n := ⟨y 0, y 1, by idx_ext⟩
  have e : ((cfg0.win 15).blk t).view.emb (ix2 r n) = ix2 r n := by blk_ext [h]
  rw [e]
  refine (q2_at _ _ _ _ _ _ _ _ r n).trans ?_
  simp only [ld0, ld1, ld2, ld3, ld4]
  rfl

/-- Result 4 after the run. -/
theorem final16 : (dats m 0 c).arrAt 16 cfg0.N = s2V (V m c main_arg1) (V m c main_v1) (V m c main_v2) (V m c main_arg4) (V m c main_v3) (V m c main_v4) (V m c main_v5) (V m c main_v6) := by
  refine (dats m 0 c).arrAt_eq_of_covers 16 _ (by decide +kernel) fun t hf y => ?_
  have h : win0_16.index t = fun _ => 0 := rfl
  blk_simp
  rw [after0_16]
  frame_out
  rw [blk1, blk2, blk3, blk4, blk5, blk6, blk7, blk8]
  obtain ⟨r, n, rfl⟩ : ∃ (r : Fin 2) (n : Fin 128), y = ix2 r n := ⟨y 0, y 1, by idx_ext⟩
  have e : ((cfg0.win 16).blk t).view.emb (ix2 r n) = ix2 r n := by blk_ext [h]
  rw [e]
  refine (sc2_at _ _ _ _ _ _ _ _ r n).trans ?_
  simp only [ld0, ld1, ld2, ld3, ld4]
  rfl

end Cert.ReferenceIdeal.Read

end
-- ==== Proof.Claims.lean ====
module

public import proofs.«01_k».proof.Defs
public import proofs.«01_k».proof.Proof.KernelRun
public import proofs.«01_k».proof.Proof.KernelIdealOut
public import proofs.«01_k».proof.Proof.ReferenceIdealOut
public import Idealize.ShloMosaic.Lib.Claim

@[expose] public section

noncomputable section

namespace Cert.Proof

open Idealize.ShloMosaic Idealize.ShloMosaic.TcCoe Idealize.SL.Sem

/-! The claims, from the two kernel runs, the reference's run and the arrays they leave. -/

/-- The kernel's frame, on the machine's words. -/
theorem frame_kernel : Cert.quiescent_Kernel (hKernel := Cert.Kernel.Gen.facts) := fun m g _ =>
  (θ_run Cert.Kernel.defs _ _).mono (fun r h => ⟨fun c => (h.1 c).1, h.2⟩) (Cert.Kernel.Body.run_main (F := Bits) m g)

/-- The kernel's frame, over the extended reals. -/
theorem frame_kernelIdeal : Cert.quiescent_KernelIdeal (hKernelIdeal := Cert.KernelIdeal.Gen.facts) := fun m g _ =>
  (θ_run Cert.KernelIdeal.defs _ _).mono (fun r h => ⟨fun c => (h.1 c).1, h.2⟩) (Cert.KernelIdeal.Body.run_main (F := Ideal) m g)

/-- The reference's frame. -/
theorem frame_reference : Cert.quiescent_ReferenceIdeal (hReferenceIdeal := Cert.ReferenceIdeal.Gen.facts) := fun m g _ =>
  Cert.ReferenceIdeal.Gen.frame m g

/-! The reshaped operands as the kernel and the reference find them. -/

theorem KernelIdeal_v0 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0 = shapeCast Cert.KernelIdeal.S16x16x2048 (m ((c.tc : Thread Cert.KernelIdeal.nD Cert.KernelIdeal.τ).loc Cert.KernelIdeal.main_arg0)) Cert.KernelIdeal.Gen.shapeCasts_S2x128x2048_S16x16x2048 := by
  entry_read
  rfl

theorem KernelIdeal_v1 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v1 = shapeCast Cert.KernelIdeal.S1x2048 (m ((c.tc : Thread Cert.KernelIdeal.nD Cert.KernelIdeal.τ).loc Cert.KernelIdeal.main_arg2)) Cert.KernelIdeal.Gen.shapeCasts_S2048_S1x2048 := by
  entry_read
  rfl

theorem KernelIdeal_v2 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v2 = shapeCast Cert.KernelIdeal.S1x2048 (m ((c.tc : Thread Cert.KernelIdeal.nD Cert.KernelIdeal.τ).loc Cert.KernelIdeal.main_arg3)) Cert.KernelIdeal.Gen.shapeCasts_S2048_S1x2048 := by
  entry_read
  rfl

theorem KernelIdeal_v3 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v3 = shapeCast Cert.KernelIdeal.S1x8192 (m ((c.tc : Thread Cert.KernelIdeal.nD Cert.KernelIdeal.τ).loc Cert.KernelIdeal.main_arg5)) Cert.KernelIdeal.Gen.shapeCasts_S8192_S1x8192 := by
  entry_read
  rfl

theorem KernelIdeal_v4 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v4 = shapeCast Cert.KernelIdeal.S1x8192 (m ((c.tc : Thread Cert.KernelIdeal.nD Cert.KernelIdeal.τ).loc Cert.KernelIdeal.main_arg6)) Cert.KernelIdeal.Gen.shapeCasts_S8192_S1x8192 := by
  entry_read
  rfl

theorem KernelIdeal_v5 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v5 = shapeCast Cert.KernelIdeal.S1x8192 (m ((c.tc : Thread Cert.KernelIdeal.nD Cert.KernelIdeal.τ).loc Cert.KernelIdeal.main_arg7)) Cert.KernelIdeal.Gen.shapeCasts_S8192_S1x8192 := by
  entry_read
  rfl

theorem KernelIdeal_v6 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v6 = shapeCast Cert.KernelIdeal.S1x8192 (m ((c.tc : Thread Cert.KernelIdeal.nD Cert.KernelIdeal.τ).loc Cert.KernelIdeal.main_arg8)) Cert.KernelIdeal.Gen.shapeCasts_S8192_S1x8192 := by
  entry_read
  rfl

theorem KernelIdeal_v7 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v7 = shapeCast Cert.KernelIdeal.S1x2048 (m ((c.tc : Thread Cert.KernelIdeal.nD Cert.KernelIdeal.τ).loc Cert.KernelIdeal.main_arg10)) Cert.KernelIdeal.Gen.shapeCasts_S2048_S1x2048 := by
  entry_read
  rfl

theorem KernelIdeal_v8 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v8 = shapeCast Cert.KernelIdeal.S1x2048 (m ((c.tc : Thread Cert.KernelIdeal.nD Cert.KernelIdeal.τ).loc Cert.KernelIdeal.main_arg11)) Cert.KernelIdeal.Gen.shapeCasts_S2048_S1x2048 := by
  entry_read
  rfl

theorem ReferenceIdeal_v0 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v0 = shapeCast Cert.ReferenceIdeal.S256x2048 (m ((c.tc : Thread Cert.ReferenceIdeal.nD Cert.ReferenceIdeal.τ).loc Cert.ReferenceIdeal.main_arg0)) Cert.ReferenceIdeal.Gen.shapeCasts_S2x128x2048_S256x2048 := by
  entry_read
  rfl

theorem ReferenceIdeal_v1 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v1 = shapeCast Cert.ReferenceIdeal.S1x2048 (m ((c.tc : Thread Cert.ReferenceIdeal.nD Cert.ReferenceIdeal.τ).loc Cert.ReferenceIdeal.main_arg2)) Cert.ReferenceIdeal.Gen.shapeCasts_S2048_S1x2048 := by
  entry_read
  rfl

theorem ReferenceIdeal_v2 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v2 = shapeCast Cert.ReferenceIdeal.S1x2048 (m ((c.tc : Thread Cert.ReferenceIdeal.nD Cert.ReferenceIdeal.τ).loc Cert.ReferenceIdeal.main_arg3)) Cert.ReferenceIdeal.Gen.shapeCasts_S2048_S1x2048 := by
  entry_read
  rfl

theorem ReferenceIdeal_v3 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v3 = shapeCast Cert.ReferenceIdeal.S1x8192 (m ((c.tc : Thread Cert.ReferenceIdeal.nD Cert.ReferenceIdeal.τ).loc Cert.ReferenceIdeal.main_arg5)) Cert.ReferenceIdeal.Gen.shapeCasts_S8192_S1x8192 := by
  entry_read
  rfl

theorem ReferenceIdeal_v4 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v4 = shapeCast Cert.ReferenceIdeal.S1x8192 (m ((c.tc : Thread Cert.ReferenceIdeal.nD Cert.ReferenceIdeal.τ).loc Cert.ReferenceIdeal.main_arg6)) Cert.ReferenceIdeal.Gen.shapeCasts_S8192_S1x8192 := by
  entry_read
  rfl

theorem ReferenceIdeal_v5 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v5 = shapeCast Cert.ReferenceIdeal.S1x8192 (m ((c.tc : Thread Cert.ReferenceIdeal.nD Cert.ReferenceIdeal.τ).loc Cert.ReferenceIdeal.main_arg7)) Cert.ReferenceIdeal.Gen.shapeCasts_S8192_S1x8192 := by
  entry_read
  rfl

theorem ReferenceIdeal_v6 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v6 = shapeCast Cert.ReferenceIdeal.S1x8192 (m ((c.tc : Thread Cert.ReferenceIdeal.nD Cert.ReferenceIdeal.τ).loc Cert.ReferenceIdeal.main_arg8)) Cert.ReferenceIdeal.Gen.shapeCasts_S8192_S1x8192 := by
  entry_read
  rfl

theorem ReferenceIdeal_v7 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v7 = shapeCast Cert.ReferenceIdeal.S1x2048 (m ((c.tc : Thread Cert.ReferenceIdeal.nD Cert.ReferenceIdeal.τ).loc Cert.ReferenceIdeal.main_arg10)) Cert.ReferenceIdeal.Gen.shapeCasts_S2048_S1x2048 := by
  entry_read
  rfl

theorem ReferenceIdeal_v8 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v8 = shapeCast Cert.ReferenceIdeal.S1x2048 (m ((c.tc : Thread Cert.ReferenceIdeal.nD Cert.ReferenceIdeal.τ).loc Cert.ReferenceIdeal.main_arg11)) Cert.ReferenceIdeal.Gen.shapeCasts_S2048_S1x2048 := by
  entry_read
  rfl

set_option maxHeartbeats 4000000 in
/-- The kernel's five results against the reference's: the same five functions of the arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Read.outV (Cert.KernelIdeal.Gen.V m c Cert.KernelIdeal.main_v0) (Cert.KernelIdeal.Gen.V m c Cert.KernelIdeal.main_arg1) (Cert.KernelIdeal.Gen.V m c Cert.KernelIdeal.main_v1) (Cert.KernelIdeal.Gen.V m c Cert.KernelIdeal.main_v2) (Cert.KernelIdeal.Gen.V m c Cert.KernelIdeal.main_arg4) (Cert.KernelIdeal.Gen.V m c Cert.KernelIdeal.main_v3) (Cert.KernelIdeal.Gen.V m c Cert.KernelIdeal.main_v4) (Cert.KernelIdeal.Gen.V m c Cert.KernelIdeal.main_v5) (Cert.KernelIdeal.Gen.V m c Cert.KernelIdeal.main_v6) (Cert.KernelIdeal.Gen.V m c Cert.KernelIdeal.main_arg9) (Cert.KernelIdeal.Gen.V m c Cert.KernelIdeal.main_v7) (Cert.KernelIdeal.Gen.V m c Cert.KernelIdeal.main_v8),
    fun c => Cert.KernelIdeal.Read.q1V (Cert.KernelIdeal.Gen.V m c Cert.KernelIdeal.main_arg1) (Cert.KernelIdeal.Gen.V m c Cert.KernelIdeal.main_v1) (Cert.KernelIdeal.Gen.V m c Cert.KernelIdeal.main_v2),
    fun c => Cert.KernelIdeal.Read.s1V (Cert.KernelIdeal.Gen.V m c Cert.KernelIdeal.main_arg1) (Cert.KernelIdeal.Gen.V m c Cert.KernelIdeal.main_v1) (Cert.KernelIdeal.Gen.V m c Cert.KernelIdeal.main_v2),
    fun c => Cert.KernelIdeal.Read.q2V (Cert.KernelIdeal.Gen.V m c Cert.KernelIdeal.main_arg1) (Cert.KernelIdeal.Gen.V m c Cert.KernelIdeal.main_v1) (Cert.KernelIdeal.Gen.V m c Cert.KernelIdeal.main_v2) (Cert.KernelIdeal.Gen.V m c Cert.KernelIdeal.main_arg4) (Cert.KernelIdeal.Gen.V m c Cert.KernelIdeal.main_v3) (Cert.KernelIdeal.Gen.V m c Cert.KernelIdeal.main_v4) (Cert.KernelIdeal.Gen.V m c Cert.KernelIdeal.main_v5) (Cert.KernelIdeal.Gen.V m c Cert.KernelIdeal.main_v6),
    fun c => Cert.KernelIdeal.Read.s2V (Cert.KernelIdeal.Gen.V m c Cert.KernelIdeal.main_arg1) (Cert.KernelIdeal.Gen.V m c Cert.KernelIdeal.main_v1) (Cert.KernelIdeal.Gen.V m c Cert.KernelIdeal.main_v2) (Cert.KernelIdeal.Gen.V m c Cert.KernelIdeal.main_arg4) (Cert.KernelIdeal.Gen.V m c Cert.KernelIdeal.main_v3) (Cert.KernelIdeal.Gen.V m c Cert.KernelIdeal.main_v4) (Cert.KernelIdeal.Gen.V m c Cert.KernelIdeal.main_v5) (Cert.KernelIdeal.Gen.V m c Cert.KernelIdeal.main_v6), ?_, ?_⟩
  · refine (θ_run Cert.KernelIdeal.defs _ _).mono (fun r h c => ?_) (Cert.KernelIdeal.Body.run_main (F := Ideal) m g)
    have hv := Cert.KernelIdeal.Read.out_of_ok m c _ _ _ _ _ (h.1 c).2
    exact ⟨hv.1, hv.2.1, hv.2.2.1, hv.2.2.2.1, hv.2.2.2.2, (h.1 c).1⟩
  · refine (θ_run Cert.ReferenceIdeal.defs _ _).mono (fun r h c => ?_) (Cert.ReferenceIdeal.Blocks.run_blocks (F := Ideal) m' g')
    obtain ⟨h0, h1, h2, h3, h4, hrest⟩ := h c
    obtain ⟨e0, e1, e2, e3, e4, e5, e6, e7, e8, e9, e10, e11⟩ := hagree c
    refine ⟨h0.trans ?_, h1.trans ?_, h2.trans ?_, h3.trans ?_, h4.trans ?_, hrest⟩
    · beta_reduce
      rw [Cert.ReferenceIdeal.Read.final12, Cert.ReferenceIdeal.Gen.V_main_arg1, Cert.ReferenceIdeal.Gen.V_main_arg4, Cert.ReferenceIdeal.Gen.V_main_arg9, Cert.KernelIdeal.Gen.V_main_arg1, Cert.KernelIdeal.Gen.V_main_arg4, Cert.KernelIdeal.Gen.V_main_arg9, ReferenceIdeal_v0, ReferenceIdeal_v1, ReferenceIdeal_v2, ReferenceIdeal_v3, ReferenceIdeal_v4, ReferenceIdeal_v5, ReferenceIdeal_v6, ReferenceIdeal_v7, ReferenceIdeal_v8, KernelIdeal_v0, KernelIdeal_v1, KernelIdeal_v2, KernelIdeal_v3, KernelIdeal_v4, KernelIdeal_v5, KernelIdeal_v6, KernelIdeal_v7, KernelIdeal_v8, e0, e1, e2, e3, e4, e5, e6, e7, e8, e9, e10, e11]
      unfold Cert.KernelIdeal.Read.outV
      rw [shapeCast_comp]
      rfl
    · beta_reduce
      rw [Cert.ReferenceIdeal.Read.final13, Cert.ReferenceIdeal.Gen.V_main_arg1, Cert.KernelIdeal.Gen.V_main_arg1, ReferenceIdeal_v1, ReferenceIdeal_v2, KernelIdeal_v1, KernelIdeal_v2, e1, e2, e3]
      rfl
    · beta_reduce
      rw [Cert.ReferenceIdeal.Read.final14, Cert.ReferenceIdeal.Gen.V_main_arg1, Cert.KernelIdeal.Gen.V_main_arg1, ReferenceIdeal_v1, ReferenceIdeal_v2, KernelIdeal_v1, KernelIdeal_v2, e1, e2, e3]
      rfl
    · beta_reduce
      rw [Cert.ReferenceIdeal.Read.final15, Cert.ReferenceIdeal.Gen.V_main_arg1, Cert.ReferenceIdeal.Gen.V_main_arg4, Cert.KernelIdeal.Gen.V_main_arg1, Cert.KernelIdeal.Gen.V_main_arg4, ReferenceIdeal_v1, ReferenceIdeal_v2, ReferenceIdeal_v3, ReferenceIdeal_v4, ReferenceIdeal_v5, ReferenceIdeal_v6, KernelIdeal_v1, KernelIdeal_v2, KernelIdeal_v3, KernelIdeal_v4, KernelIdeal_v5, KernelIdeal_v6, e1, e2, e3, e4, e5, e6, e7, e8]
      rfl
    · beta_reduce
      rw [Cert.ReferenceIdeal.Read.final16, Cert.ReferenceIdeal.Gen.V_main_arg1, Cert.ReferenceIdeal.Gen.V_main_arg4, Cert.KernelIdeal.Gen.V_main_arg1, Cert.KernelIdeal.Gen.V_main_arg4, ReferenceIdeal_v1, ReferenceIdeal_v2, ReferenceIdeal_v3, ReferenceIdeal_v4, ReferenceIdeal_v5, ReferenceIdeal_v6, KernelIdeal_v1, KernelIdeal_v2, KernelIdeal_v3, KernelIdeal_v4, KernelIdeal_v5, KernelIdeal_v6, e1, e2, e3, e4, e5, e6, e7, e8]
      rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.frame_kernel, Cert.Proof.frame_kernelIdeal, Cert.Proof.frame_reference, trivial, Cert.Proof.algebraic⟩

end Cert.Proof

end
